-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v2_4)) (v5 : (c : Dev Cert.KernelIdeal.nD) → Buf (Elt Ideal) ((c.tc : Thread Cert.KernelIdeal.nD Cert.KernelIdeal.τ).loc Cert.KernelIdeal.main_v2_5)) (v6 : (c : Dev Cert.KernelIdeal.nD) → Buf (Elt Ideal) ((c.tc : Thread Cert.KernelIdeal.nD Cert.KernelIdeal.τ).loc Cert.KernelIdeal.main_v2_6)) (v7 : (c : Dev Cert.KernelIdeal.nD) → Buf (Elt Ideal) ((c.tc : Thread Cert.KernelIdeal.nD Cert.KernelIdeal.τ).loc Cert.KernelIdeal.main_v2_7)) (v8 : (c : Dev Cert.KernelIdeal.nD) → Buf (Elt Ideal) ((c.tc : Thread Cert.KernelIdeal.nD Cert.KernelIdeal.τ).loc Cert.KernelIdeal.main_v2_8)) (v9 : (c : Dev Cert.KernelIdeal.nD) → Buf (Elt Ideal) ((c.tc : Thread Cert.KernelIdeal.nD Cert.KernelIdeal.τ).loc Cert.KernelIdeal.main_v2_9)) (v10 : (c : Dev Cert.KernelIdeal.nD) → Buf (Elt Ideal) ((c.tc : Thread Cert.KernelIdeal.nD Cert.KernelIdeal.τ).loc Cert.KernelIdeal.main_v2_10)) (v11 : (c : Dev Cert.KernelIdeal.nD) → Buf (Elt Ideal) ((c.tc : Thread Cert.KernelIdeal.nD Cert.KernelIdeal.τ).loc Cert.KernelIdeal.main_v2_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v2_4) = v4 c
          ∧ r.2.mem ((c.tc : Thread Cert.KernelIdeal.nD Cert.KernelIdeal.τ).loc Cert.KernelIdeal.main_v2_5) = v5 c
          ∧ r.2.mem ((c.tc : Thread Cert.KernelIdeal.nD Cert.KernelIdeal.τ).loc Cert.KernelIdeal.main_v2_6) = v6 c
          ∧ r.2.mem ((c.tc : Thread Cert.KernelIdeal.nD Cert.KernelIdeal.τ).loc Cert.KernelIdeal.main_v2_7) = v7 c
          ∧ r.2.mem ((c.tc : Thread Cert.KernelIdeal.nD Cert.KernelIdeal.τ).loc Cert.KernelIdeal.main_v2_8) = v8 c
          ∧ r.2.mem ((c.tc : Thread Cert.KernelIdeal.nD Cert.KernelIdeal.τ).loc Cert.KernelIdeal.main_v2_9) = v9 c
          ∧ r.2.mem ((c.tc : Thread Cert.KernelIdeal.nD Cert.KernelIdeal.τ).loc Cert.KernelIdeal.main_v2_10) = v10 c
          ∧ r.2.mem ((c.tc : Thread Cert.KernelIdeal.nD Cert.KernelIdeal.τ).loc Cert.KernelIdeal.main_v2_11) = v11 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85_0) = v0 c
          ∧ r.2.mem ((c.tc : Thread Cert.ReferenceIdeal.nD Cert.ReferenceIdeal.τ).loc Cert.ReferenceIdeal.main_v85_1) = v1 c
          ∧ r.2.mem ((c.tc : Thread Cert.ReferenceIdeal.nD Cert.ReferenceIdeal.τ).loc Cert.ReferenceIdeal.main_v85_2) = v2 c
          ∧ r.2.mem ((c.tc : Thread Cert.ReferenceIdeal.nD Cert.ReferenceIdeal.τ).loc Cert.ReferenceIdeal.main_v5) = v3 c
          ∧ r.2.mem ((c.tc : Thread Cert.ReferenceIdeal.nD Cert.ReferenceIdeal.τ).loc Cert.ReferenceIdeal.main_v10) = v4 c
          ∧ r.2.mem ((c.tc : Thread Cert.ReferenceIdeal.nD Cert.ReferenceIdeal.τ).loc Cert.ReferenceIdeal.main_v16) = v5 c
          ∧ r.2.mem ((c.tc : Thread Cert.ReferenceIdeal.nD Cert.ReferenceIdeal.τ).loc Cert.ReferenceIdeal.main_v85_3) = v6 c
          ∧ r.2.mem ((c.tc : Thread Cert.ReferenceIdeal.nD Cert.ReferenceIdeal.τ).loc Cert.ReferenceIdeal.main_v77) = v7 c
          ∧ r.2.mem ((c.tc : Thread Cert.ReferenceIdeal.nD Cert.ReferenceIdeal.τ).loc Cert.ReferenceIdeal.main_v85_4) = v8 c
          ∧ r.2.mem ((c.tc : Thread Cert.ReferenceIdeal.nD Cert.ReferenceIdeal.τ).loc Cert.ReferenceIdeal.main_v79) = v9 c
          ∧ r.2.mem ((c.tc : Thread Cert.ReferenceIdeal.nD Cert.ReferenceIdeal.τ).loc Cert.ReferenceIdeal.main_v85_5) = v10 c
          ∧ r.2.mem ((c.tc : Thread Cert.ReferenceIdeal.nD Cert.ReferenceIdeal.τ).loc Cert.ReferenceIdeal.main_v81) = v11 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x1024x2048 : Shape := ⟨3, ![4, 1024, 2048]⟩
abbrev S2048x2304 : Shape := ⟨2, ![2048, 2304]⟩
abbrev S4x1024x2304 : Shape := ⟨3, ![4, 1024, 2304]⟩
abbrev S16 : Shape := ⟨1, ![16]⟩
abbrev S4096x2048 : Shape := ⟨2, ![4096, 2048]⟩
abbrev S4096x2304 : Shape := ⟨2, ![4096, 2304]⟩
abbrev S512x8x2304 : Shape := ⟨3, ![512, 8, 2304]⟩
abbrev S512x8x2048 : Shape := ⟨3, ![512, 8, 2048]⟩
abbrev S1 : Shape := ⟨1, ![1]⟩
abbrev S512x2048 : Shape := ⟨2, ![512, 2048]⟩
abbrev S256x2304 : Shape := ⟨2, ![256, 2304]⟩
abbrev S512x2304 : Shape := ⟨2, ![512, 2304]⟩
abbrev S64x8x2304 : Shape := ⟨3, ![64, 8, 2304]⟩
abbrev S64x8x2048 : Shape := ⟨3, ![64, 8, 2048]⟩
abbrev S8x4096x256 : Shape := ⟨3, ![8, 4096, 256]⟩
abbrev S16x2048 : Shape := ⟨2, ![16, 2048]⟩
abbrev S8x2304 : Shape := ⟨2, ![8, 2304]⟩
abbrev S16x2304 : Shape := ⟨2, ![16, 2304]⟩
abbrev S3 : Shape := ⟨1, ![3]⟩
abbrev S8x128 : Shape := ⟨2, ![8, 128]⟩
abbrev S1x1 : Shape := ⟨2, ![1, 1]⟩
abbrev S32x8x2304 : Shape := ⟨3, ![32, 8, 2304]⟩
abbrev S32x16x2048 : Shape := ⟨3, ![32, 16, 2048]⟩
abbrev S32x16x2304 : Shape := ⟨3, ![32, 16, 2304]⟩
abbrev S512x256 : Shape := ⟨2, ![512, 256]⟩
abbrev S1x512x256 : Shape := ⟨3, ![1, 512, 256]⟩
abbrev S1x4096x256 : Shape := ⟨3, ![1, 4096, 256]⟩
abbrev S4096x256 : Shape := ⟨2, ![4096, 256]⟩
abbrev S1x16x2048 : Shape := ⟨3, ![1, 16, 2048]⟩
abbrev S1x1x1 : Shape := ⟨3, ![1, 1, 1]⟩
abbrev S1x8x2304 : Shape := ⟨3, ![1, 8, 2304]⟩
abbrev S1x16x2304 : Shape := ⟨3, ![1, 16, 2304]⟩

abbrev nBuf : Space → Nat
  | .hbm => 20
  | .vmem => 24
  | .smem => 10
  | _ => 0

abbrev bufTy : (tb : Table) → Fin (tcTables nBuf tb) → BufTy
  | .hbm, ⟨0, _⟩ => ⟨S4x1024x2048, .bf16⟩
  | .hbm, ⟨1, _⟩ => ⟨S2048x2304, .f32⟩
  | .hbm, ⟨2, _⟩ => ⟨S4x1024x2304, .bf16⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S4096x2048, .bf16⟩
  | .hbm, ⟨7, _⟩ => ⟨S4096x2304, .bf16⟩
  | .hbm, ⟨8, _⟩ => ⟨S512x8x2304, .bf16⟩
  | .hbm, ⟨9, _⟩ => ⟨S512x8x2048, .bf16⟩
  | .hbm, ⟨10, _⟩ => ⟨S2048x2304, .f32⟩
  | .hbm, ⟨11, _⟩ => ⟨S16, .f32⟩
  | .hbm, ⟨12, _⟩ => ⟨S16, .f32⟩
  | .hbm, ⟨13, _⟩ => ⟨S16, .f32⟩
  | .hbm, ⟨14, _⟩ => ⟨S4096x2048, .fp8e4m3⟩
  | .hbm, ⟨15, _⟩ => ⟨S1, .f32⟩
  | .hbm, ⟨16, _⟩ => ⟨S2048x2304, .fp8e4m3⟩
  | .hbm, ⟨17, _⟩ => ⟨S1, .f32⟩
  | .hbm, ⟨18, _⟩ => ⟨S4096x2304, .fp8e5m2⟩
  | .hbm, ⟨19, _⟩ => ⟨S1, .f32⟩
  | .local _ .vmem, ⟨0, _⟩ => ⟨S512x2048, .bf16⟩
  | .local _ .vmem, ⟨1, _⟩ => ⟨S512x2048, .bf16⟩
  | .local _ .vmem, ⟨2, _⟩ => ⟨S256x2304, .f32⟩
  | .local _ .vmem, ⟨3, _⟩ => ⟨S256x2304, .f32⟩
  | .local _ .vmem, ⟨4, _⟩ => ⟨S512x2304, .bf16⟩
  | .local _ .vmem, ⟨5, _⟩ => ⟨S512x2304, .bf16⟩
  | .local _ .vmem, ⟨6, _⟩ => ⟨S64x8x2304, .bf16⟩
  | .local _ .vmem, ⟨7, _⟩ => ⟨S64x8x2304, .bf16⟩
  | .local _ .vmem, ⟨8, _⟩ => ⟨S64x8x2048, .bf16⟩
  | .local _ .vmem, ⟨9, _⟩ => ⟨S64x8x2048, .bf16⟩
  | .local _ .vmem, ⟨10, _⟩ => ⟨S256x2304, .f32⟩
  | .local _ .vmem, ⟨11, _⟩ => ⟨S256x2304, .f32⟩
  | .local _ .vmem, ⟨12, _⟩ => ⟨S512x2048, .fp8e4m3⟩
  | .local _ .vmem, ⟨13, _⟩ => ⟨S512x2048, .fp8e4m3⟩
  | .local _ .vmem, ⟨14, _⟩ => ⟨S256x2304, .fp8e4m3⟩
  | .local _ .vmem, ⟨15, _⟩ => ⟨S256x2304, .fp8e4m3⟩
  | .local _ .vmem, ⟨16, _⟩ => ⟨S512x2304, .fp8e5m2⟩
  | .local _ .vmem, ⟨17, _⟩ => ⟨S512x2304, .fp8e5m2⟩
  | .local _ .vmem, ⟨18, _⟩ => ⟨S8x4096x256, .fp8e4m3⟩
  | .local _ .vmem, ⟨19, _⟩ => ⟨S2048x2304, .fp8e4m3⟩
  | .local _ .vmem, ⟨20, _⟩ => ⟨S4096x2304, .fp8e5m2⟩
  | .local _ .vmem, ⟨21, _⟩ => ⟨S16x2048, .bf16⟩
  | .local _ .vmem, ⟨22, _⟩ => ⟨S8x2304, .f32⟩
  | .local _ .vmem, ⟨23, _⟩ => ⟨S16x2304, .bf16⟩
  | .local _ .smem, ⟨0, _⟩ => ⟨S16, .f32⟩
  | .local _ .smem, ⟨1, _⟩ => ⟨S16, .f32⟩
  | .local _ .smem, ⟨2, _⟩ => ⟨S16, .f32⟩
  | .local _ .smem, ⟨3, _⟩ => ⟨S16, .f32⟩
  | .local _ .smem, ⟨4, _⟩ => ⟨S16, .f32⟩
  | .local _ .smem, ⟨5, _⟩ => ⟨S16, .f32⟩
  | .local _ .smem, ⟨6, _⟩ => ⟨S1, .f32⟩
  | .local _ .smem, ⟨7, _⟩ => ⟨S1, .f32⟩
  | .local _ .smem, ⟨8, _⟩ => ⟨S1, .f32⟩
  | .local _ .smem, ⟨9, _⟩ => ⟨S3, .f32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev main_v2_5 : Ref sig .tc := ⟨.hbm, 13, rfl⟩
abbrev main_v2_6 : Ref sig .tc := ⟨.hbm, 14, rfl⟩
abbrev main_v2_7 : Ref sig .tc := ⟨.hbm, 15, rfl⟩
abbrev main_v2_8 : Ref sig .tc := ⟨.hbm, 16, rfl⟩
abbrev main_v2_9 : Ref sig .tc := ⟨.hbm, 17, rfl⟩
abbrev main_v2_10 : Ref sig .tc := ⟨.hbm, 18, rfl⟩
abbrev main_v2_11 : Ref sig .tc := ⟨.hbm, 19, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg12_0 : Ref sig .tc := ⟨.vmem, 12, rfl⟩
abbrev cc0_stg12_1 : Ref sig .tc := ⟨.vmem, 13, rfl⟩
abbrev cc0_stg14_0 : Ref sig .tc := ⟨.vmem, 14, rfl⟩
abbrev cc0_stg14_1 : Ref sig .tc := ⟨.vmem, 15, rfl⟩
abbrev cc0_stg16_0 : Ref sig .tc := ⟨.vmem, 16, rfl⟩
abbrev cc0_stg16_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg9_0 : Ref sig .tc := ⟨.smem, 3, rfl⟩
abbrev cc0_stg10_0 : Ref sig .tc := ⟨.smem, 4, rfl⟩
abbrev cc0_stg11_0 : Ref sig .tc := ⟨.smem, 5, rfl⟩
abbrev cc0_stg13_0 : Ref sig .tc := ⟨.smem, 6, rfl⟩
abbrev cc0_stg15_0 : Ref sig .tc := ⟨.smem, 7, rfl⟩
abbrev cc0_stg17_0 : Ref sig .tc := ⟨.smem, 8, rfl⟩
abbrev cc0_scratch6 : Ref sig .tc := ⟨.smem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem16_1 : DmaSem sig := 25
abbrev cc0_sem17_0 : DmaSem sig := 26

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg0 : BitVec 32 := BitVec.ofNat 32 (i 0).val
  let c256_i32 : BitVec 32 := 256#32
  let v35 : BitVec 32 := Scalar.muli arg0 c256_i32
  v35
def k0_off1 (i : grid0.Coords) : Fin 2 → Nat :=
  let arg0 : BitVec 32 := BitVec.ofNat 32 (i 0).val
  let c256_i32 : BitVec 32 := 256#32
  let v35 : BitVec 32 := Scalar.muli arg0 c256_i32
  let v36 : BitVec 32 := v35
  let v37 : Index := Scalar.indexCast v36
  let c0_16 : Index := 0#32
  ![v37.toNat, 0]
def k0_cond3 (i : grid0.Coords) : BitVec 1 :=
  let arg0 : BitVec 32 := BitVec.ofNat 32 (i 0).val
  let c8_i32_2 : BitVec 32 := 8#32
  let v6 : BitVec 1 := Scalar.cmpi .sge arg0 c8_i32_2
  let c16_i32 : BitVec 32 := 16#32
  let v7 : BitVec 1 := Scalar.cmpi .slt arg0 c16_i32
  let v8 : BitVec 1 := Scalar.andi v6 v7
  let v9 : BitVec 32 := Scalar.extui v8
  let c0_i32_3 : BitVec 32 := 0#32
  let v10 : BitVec 1 := Scalar.cmpi .ne v9 c0_i32_3
  v10

def k0_mult2 (i : grid0.Coords) : BitVec 32 :=
  let arg0 : BitVec 32 := BitVec.ofNat 32 (i 0).val
  let c8_i32_7 : BitVec 32 := 8#32
  let v17 : BitVec 32 := Scalar.subi arg0 c8_i32_7
  let c512_i32 : BitVec 32 := 512#32
  let v18 : BitVec 32 := Scalar.muli v17 c512_i32
  v18
def k0_off2 (i : grid0.Coords) : Fin 3 → Nat :=
  let c0_29 : Index := 0#32
  let arg0 : BitVec 32 := BitVec.ofNat 32 (i 0).val
  let c8_i32_7 : BitVec 32 := 8#32
  let v17 : BitVec 32 := Scalar.subi arg0 c8_i32_7
  let c512_i32 : BitVec 32 := 512#32
  let v18 : BitVec 32 := Scalar.muli v17 c512_i32
  let v19 : BitVec 32 := v18
  let v61 : Index := Scalar.indexCast v19
  let c0_30 : Index := 0#32
  ![0, v61.toNat, 0]
def k0_off3 (i : grid0.Coords) : Fin 3 → Nat :=
  let c1 : Index := 1#32
  let arg0 : BitVec 32 := BitVec.ofNat 32 (i 0).val
  let c8_i32_7 : BitVec 32 := 8#32
  let v17 : BitVec 32 := Scalar.subi arg0 c8_i32_7
  let c512_i32 : BitVec 32 := 512#32
  let v18 : BitVec 32 := Scalar.muli v17 c512_i32
  let v19 : BitVec 32 := v18
  let v66 : Index := Scalar.indexCast v19
  let c0_31 : Index := 0#32
  ![1, v66.toNat, 0]
def k0_off4 (i : grid0.Coords) : Fin 3 → Nat :=
  let c2_32 : Index := 2#32
  let arg0 : BitVec 32 := BitVec.ofNat 32 (i 0).val
  let c8_i32_7 : BitVec 32 := 8#32
  let v17 : BitVec 32 := Scalar.subi arg0 c8_i32_7
  let c512_i32 : BitVec 32 := 512#32
  let v18 : BitVec 32 := Scalar.muli v17 c512_i32
  let v19 : BitVec 32 := v18
  let v71 : Index := Scalar.indexCast v19
  let c0_33 : Index := 0#32
  ![2, v71.toNat, 0]
def k0_off5 (i : grid0.Coords) : Fin 3 → Nat :=
  let c3 : Index := 3#32
  let arg0 : BitVec 32 := BitVec.ofNat 32 (i 0).val
  let c8_i32_7 : BitVec 32 := 8#32
  let v17 : BitVec 32 := Scalar.subi arg0 c8_i32_7
  let c512_i32 : BitVec 32 := 512#32
  let v18 : BitVec 32 := Scalar.muli v17 c512_i32
  let v19 : BitVec 32 := v18
  let v76 : Index := Scalar.indexCast v19
  let c0_34 : Index := 0#32
  ![3, v76.toNat, 0]
def k0_off6 (i : grid0.Coords) : Fin 3 → Nat :=
  let c4 : Index := 4#32
  let arg0 : BitVec 32 := BitVec.ofNat 32 (i 0).val
  let c8_i32_7 : BitVec 32 := 8#32
  let v17 : BitVec 32 := Scalar.subi arg0 c8_i32_7
  let c512_i32 : BitVec 32 := 512#32
  let v18 : BitVec 32 := Scalar.muli v17 c512_i32
  let v19 : BitVec 32 := v18
  let v81 : Index := Scalar.indexCast v19
  let c0_35 : Index := 0#32
  ![4, v81.toNat, 0]
def k0_off7 (i : grid0.Coords) : Fin 3 → Nat :=
  let c5 : Index := 5#32
  let arg0 : BitVec 32 := BitVec.ofNat 32 (i 0).val
  let c8_i32_7 : BitVec 32 := 8#32
  let v17 : BitVec 32 := Scalar.subi arg0 c8_i32_7
  let c512_i32 : BitVec 32 := 512#32
  let v18 : BitVec 32 := Scalar.muli v17 c512_i32
  let v19 : BitVec 32 := v18
  let v86 : Index := Scalar.indexCast v19
  let c0_36 : Index := 0#32
  ![5, v86.toNat, 0]
def k0_off8 (i : grid0.Coords) : Fin 3 → Nat :=
  let c6 : Index := 6#32
  let arg0 : BitVec 32 := BitVec.ofNat 32 (i 0).val
  let c8_i32_7 : BitVec 32 := 8#32
  let v17 : BitVec 32 := Scalar.subi arg0 c8_i32_7
  let c512_i32 : BitVec 32 := 512#32
  let v18 : BitVec 32 := Scalar.muli v17 c512_i32
  let v19 : BitVec 32 := v18
  let v91 : Index := Scalar.indexCast v19
  let c0_37 : Index := 0#32
  ![6, v91.toNat, 0]
def k0_off9 (i : grid0.Coords) : Fin 3 → Nat :=
  let c7 : Index := 7#32
  let arg0 : BitVec 32 := BitVec.ofNat 32 (i 0).val
  let c8_i32_7 : BitVec 32 := 8#32
  let v17 : BitVec 32 := Scalar.subi arg0 c8_i32_7
  let c512_i32 : BitVec 32 := 512#32
  let v18 : BitVec 32 := Scalar.muli v17 c512_i32
  let v19 : BitVec 32 := v18
  let v96 : Index := Scalar.indexCast v19
  let c0_38 : Index := 0#32
  ![7, v96.toNat, 0]
def k0_off10 (i : grid0.Coords) : Fin 2 → Nat :=
  let arg0 : BitVec 32 := BitVec.ofNat 32 (i 0).val
  let c8_i32_7 : BitVec 32 := 8#32
  let v17 : BitVec 32 := Scalar.subi arg0 c8_i32_7
  let c512_i32 : BitVec 32 := 512#32
  let v18 : BitVec 32 := Scalar.muli v17 c512_i32
  let v19 : BitVec 32 := v18
  let v100 : Index := Scalar.indexCast v19
  let c0_39 : Index := 0#32
  ![v100.toNat, 0]
def k0_cond4 (i : grid0.Coords) : BitVec 1 :=
  let arg0 : BitVec 32 := BitVec.ofNat 32 (i 0).val
  let c16_i32_4 : BitVec 32 := 16#32
  let v11 : BitVec 1 := Scalar.cmpi .sge arg0 c16_i32_4
  let v12 : BitVec 32 := Scalar.extui v11
  let c0_i32_5 : BitVec 32 := 0#32
  let v13 : BitVec 1 := Scalar.cmpi .ne v12 c0_i32_5
  v13

def k0_off11 (i : grid0.Coords) : Fin 3 → Nat :=
  let arg0 : BitVec 32 := BitVec.ofNat 32 (i 0).val
  let c16_i32_7 : BitVec 32 := 16#32
  let v17 : BitVec 32 := Scalar.subi arg0 c16_i32_7
  let v18 : Index := Scalar.indexCast v17
  let c0 : Index := 0#32
  let c0_8 : Index := 0#32
  ![v18.toNat, 0, 0]
def k0_cond5 (i : grid0.Coords) : BitVec 1 :=
  let arg0 : BitVec 32 := BitVec.ofNat 32 (i 0).val
  let c23_i32 : BitVec 32 := 23#32
  let v14 : BitVec 1 := Scalar.cmpi .eq arg0 c23_i32
  let v15 : BitVec 32 := Scalar.extui v14
  let c0_i32_6 : BitVec 32 := 0#32
  let v16 : BitVec 1 := Scalar.cmpi .ne v15 c0_i32_6
  v16

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![v2.toNat, c0_i32_0.toNat, c0_i32_1.toNat]

def cc0_transform_7 (i : grid0.Coords) : Fin 3 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  let c0_i32_2 : BitVec 32 := 0#32
  ![v2.toNat, c0_i32_0.toNat, c0_i32_1.toNat]

def cc0_transform_8 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let c7_i32 : BitVec 32 := 7#32
  let v1 : BitVec 32 := Scalar.maxsi c0_i32 v0
  let v2 : BitVec 32 := Scalar.minsi c7_i32 v1
  let c0_i32_0 : BitVec 32 := 0#32
  let c0_i32_1 : BitVec 32 := 0#32
  ![v2.toNat, c0_i32_0.toNat]

def cc0_transform_17 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2304 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x8x2304 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x8x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2304 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .smem S16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x2048 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .smem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S256x2304 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .smem S1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x2304 .fp8e5m2 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .smem S1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S4x1024x2048 : Shape := ⟨3, ![4, 1024, 2048]⟩
abbrev S2048x2304 : Shape := ⟨2, ![2048, 2304]⟩
abbrev S4x1024x2304 : Shape := ⟨3, ![4, 1024, 2304]⟩
abbrev S16 : Shape := ⟨1, ![16]⟩
abbrev S_ : Shape := ⟨0, ![]⟩
abbrev S15 : Shape := ⟨1, ![15]⟩
abbrev S1 : Shape := ⟨1, ![1]⟩
abbrev S252 : Shape := ⟨1, ![252]⟩
abbrev S4096x2048 : Shape := ⟨2, ![4096, 2048]⟩
abbrev S4096x2304 : Shape := ⟨2, ![4096, 2304]⟩
abbrev S512x8x2304 : Shape := ⟨3, ![512, 8, 2304]⟩
abbrev S512x8x2048 : Shape := ⟨3, ![512, 8, 2048]⟩

abbrev nBuf : Space → Nat
  | .hbm => 145
  | .vmem => 9
  | .smem => 6
  | _ => 0

abbrev hbmTy0_0 (i : Nat) : BufTy := match i % 128 with
  | 0 => ⟨S4x1024x2048, .bf16⟩
  | 1 => ⟨S2048x2304, .f32⟩
  | 2 => ⟨S4x1024x2304, .bf16⟩
  | 3 => ⟨S16, .f32⟩
  | 4 => ⟨S16, .f32⟩
  | 5 => ⟨S16, .f32⟩
  | 6 => ⟨S4x1024x2048, .f32⟩
  | 7 => ⟨S4x1024x2048, .f32⟩
  | 8 => ⟨S_, .f32⟩
  | 9 => ⟨S_, .f32⟩
  | 10 => ⟨S15, .f32⟩
  | 11 => ⟨S1, .f32⟩
  | 12 => ⟨S16, .f32⟩
  | 13 => ⟨S2048x2304, .f32⟩
  | 14 => ⟨S_, .f32⟩
  | 15 => ⟨S_, .f32⟩
  | 16 => ⟨S15, .f32⟩
  | 17 => ⟨S1, .f32⟩
  | 18 => ⟨S16, .f32⟩
  | 19 => ⟨S4x1024x2304, .f32⟩
  | 20 => ⟨S4x1024x2304, .f32⟩
  | 21 => ⟨S_, .f32⟩
  | 22 => ⟨S_, .f32⟩
  | 23 => ⟨S15, .f32⟩
  | 24 => ⟨S1, .f32⟩
  | 25 => ⟨S16, .f32⟩
  | 26 => ⟨S_, .f32⟩
  | 27 => ⟨S_, .f32⟩
  | 28 => ⟨S_, .f32⟩
  | 29 => ⟨S_, .f32⟩
  | 30 => ⟨S_, .f32⟩
  | 31 => ⟨S252, .f32⟩
  | 32 => ⟨S_, .f32⟩
  | 33 => ⟨S252, .f32⟩
  | 34 => ⟨S252, .f32⟩
  | 35 => ⟨S_, .f32⟩
  | 36 => ⟨S252, .f32⟩
  | 37 => ⟨S252, .f32⟩
  | 38 => ⟨S252, .f32⟩
  | 39 => ⟨S252, .i1⟩
  | 40 => ⟨S_, .f32⟩
  | 41 => ⟨S_, .f32⟩
  | 42 => ⟨S252, .f32⟩
  | 43 => ⟨S252, .f32⟩
  | 44 => ⟨S_, .f32⟩
  | 45 => ⟨S_, .f32⟩
  | 46 => ⟨S_, .f32⟩
  | 47 => ⟨S_, .f32⟩
  | 48 => ⟨S_, .f32⟩
  | 49 => ⟨S_, .i1⟩
  | 50 => ⟨S_, .f32⟩
  | 51 => ⟨S_, .i1⟩
  | 52 => ⟨S_, .i1⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S252, .f32⟩
  | 67 => ⟨S_, .f32⟩
  | 68 => ⟨S252, .f32⟩
  | 69 => ⟨S252, .f32⟩
  | 70 => ⟨S_, .f32⟩
  | 71 => ⟨S252, .f32⟩
  | 72 => ⟨S252, .f32⟩
  | 73 => ⟨S252, .f32⟩
  | 74 => ⟨S252, .i1⟩
  | 75 => ⟨S_, .f32⟩
  | 76 => ⟨S_, .f32⟩
  | 77 => ⟨S252, .f32⟩
  | 78 => ⟨S252, .f32⟩
  | 79 => ⟨S_, .f32⟩
  | 80 => ⟨S_, .f32⟩
  | 81 => ⟨S_, .f32⟩
  | 82 => ⟨S_, .f32⟩
  | 83 => ⟨S_, .f32⟩
  | 84 => ⟨S_, .i1⟩
  | 85 => ⟨S_, .f32⟩
  | 86 => ⟨S_, .i1⟩
  | 87 => ⟨S_, .i1⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S252, .f32⟩
  | 102 => ⟨S_, .f32⟩
  | 103 => ⟨S252, .f32⟩
  | 104 => ⟨S252, .f32⟩
  | 105 => ⟨S_, .f32⟩
  | 106 => ⟨S252, .f32⟩
  | 107 => ⟨S252, .f32⟩
  | 108 => ⟨S252, .f32⟩
  | 109 => ⟨S252, .i1⟩
  | 110 => ⟨S_, .f32⟩
  | 111 => ⟨S_, .f32⟩
  | 112 => ⟨S252, .f32⟩
  | 113 => ⟨S252, .f32⟩
  | 114 => ⟨S_, .f32⟩
  | 115 => ⟨S_, .f32⟩
  | 116 => ⟨S_, .f32⟩
  | 117 => ⟨S_, .f32⟩
  | 118 => ⟨S_, .f32⟩
  | 119 => ⟨S_, .i1⟩
  | 120 => ⟨S_, .f32⟩
  | 121 => ⟨S_, .i1⟩
  | 122 => ⟨S_, .i1⟩
  | 123 => ⟨S_, .f32⟩
  | 124 => ⟨S_, .f32⟩
  | 125 => ⟨S_, .f32⟩
  | 126 => ⟨S_, .f32⟩
  | 127 => ⟨S_, .f32⟩
  | _ => ⟨S4x1024x2048, .bf16⟩

abbrev hbmTy0_1 (i : Nat) : BufTy := match i % 128 with
  | 0 => ⟨S_, .f32⟩
  | 1 => ⟨S_, .f32⟩
  | 2 => ⟨S_, .f32⟩
  | 3 => ⟨S1, .f32⟩
  | 4 => ⟨S1, .f32⟩
  | 5 => ⟨S1, .f32⟩
  | 6 => ⟨S1, .f32⟩
  | 7 => ⟨S1, .f32⟩
  | 8 => ⟨S1, .f32⟩
  | 9 => ⟨S4096x2048, .bf16⟩
  | 10 => ⟨S4096x2304, .bf16⟩
  | 11 => ⟨S512x8x2304, .bf16⟩
  | 12 => ⟨S512x8x2048, .bf16⟩
  | 13 => ⟨S2048x2304, .f32⟩
  | 14 => ⟨S4096x2048, .fp8e4m3⟩
  | 15 => ⟨S2048x2304, .fp8e4m3⟩
  | 16 => ⟨S4096x2304, .fp8e5m2⟩
  | _ => ⟨S4x1024x2048, .bf16⟩

abbrev hbmTy (i : Nat) : BufTy := match i / 128 with
  | 0 => hbmTy0_0 i
  | 1 => hbmTy0_1 i
  | _ => ⟨S4x1024x2048, .bf16⟩

abbrev bufTy : (tb : Table) → Fin (tcTables nBuf tb) → BufTy
  | .hbm, ⟨i, _⟩ => hbmTy i
  | .local _ .vmem, ⟨0, _⟩ => ⟨S4096x2048, .bf16⟩
  | .local _ .vmem, ⟨1, _⟩ => ⟨S2048x2304, .f32⟩
  | .local _ .vmem, ⟨2, _⟩ => ⟨S4096x2304, .bf16⟩
  | .local _ .vmem, ⟨3, _⟩ => ⟨S512x8x2304, .bf16⟩
  | .local _ .vmem, ⟨4, _⟩ => ⟨S512x8x2048, .bf16⟩
  | .local _ .vmem, ⟨5, _⟩ => ⟨S2048x2304, .f32⟩
  | .local _ .vmem, ⟨6, _⟩ => ⟨S4096x2048, .fp8e4m3⟩
  | .local _ .vmem, ⟨7, _⟩ => ⟨S2048x2304, .fp8e4m3⟩
  | .local _ .vmem, ⟨8, _⟩ => ⟨S4096x2304, .fp8e5m2⟩
  | .local _ .smem, ⟨0, _⟩ => ⟨S1, .f32⟩
  | .local _ .smem, ⟨1, _⟩ => ⟨S1, .f32⟩
  | .local _ .smem, ⟨2, _⟩ => ⟨S1, .f32⟩
  | .local _ .smem, ⟨3, _⟩ => ⟨S1, .f32⟩
  | .local _ .smem, ⟨4, _⟩ => ⟨S1, .f32⟩
  | .local _ .smem, ⟨5, _⟩ => ⟨S1, .f32⟩
  | _, _ => ⟨S4x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_call0_v0 : Ref sig .tc := ⟨.hbm, 41, rfl⟩
abbrev main_call0_v1 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_cst_9 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_cst_11 : Ref sig .tc := ⟨.hbm, 53, rfl⟩
abbrev main_call1_v0 : Ref sig .tc := ⟨.hbm, 54, rfl⟩
abbrev main_v33 : Ref sig .tc := ⟨.hbm, 55, rfl⟩
abbrev main_cst_12 : Ref sig .tc := ⟨.hbm, 56, rfl⟩
abbrev main_v34 : Ref sig .tc := ⟨.hbm, 57, rfl⟩
abbrev main_v35 : Ref sig .tc := ⟨.hbm, 58, rfl⟩
abbrev main_cst_13 : Ref sig .tc := ⟨.hbm, 59, rfl⟩
abbrev main_v36 : Ref sig .tc := ⟨.hbm, 60, rfl⟩
abbrev main_cst_14 : Ref sig .tc := ⟨.hbm, 61, rfl⟩
abbrev main_v37 : Ref sig .tc := ⟨.hbm, 62, rfl⟩
abbrev main_cst_15 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_16 : Ref sig .tc := ⟨.hbm, 67, rfl⟩
abbrev main_v41 : Ref sig .tc := ⟨.hbm, 68, rfl⟩
abbrev main_v42 : Ref sig .tc := ⟨.hbm, 69, rfl⟩
abbrev main_cst_17 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_18 : Ref sig .tc := ⟨.hbm, 75, rfl⟩
abbrev main_call2_v0 : Ref sig .tc := ⟨.hbm, 76, rfl⟩
abbrev main_call2_v1 : Ref sig .tc := ⟨.hbm, 77, rfl⟩
abbrev main_v47 : Ref sig .tc := ⟨.hbm, 78, rfl⟩
abbrev main_cst_19 : Ref sig .tc := ⟨.hbm, 79, rfl⟩
abbrev main_v48 : Ref sig .tc := ⟨.hbm, 80, rfl⟩
abbrev main_cst_20 : Ref sig .tc := ⟨.hbm, 81, rfl⟩
abbrev main_v49 : Ref sig .tc := ⟨.hbm, 82, rfl⟩
abbrev main_cst_21 : Ref sig .tc := ⟨.hbm, 83, rfl⟩
abbrev main_v50 : Ref sig .tc := ⟨.hbm, 84, rfl⟩
abbrev main_cst_22 : Ref sig .tc := ⟨.hbm, 85, rfl⟩
abbrev main_v51 : Ref sig .tc := ⟨.hbm, 86, rfl⟩
abbrev main_v52 : Ref sig .tc := ⟨.hbm, 87, rfl⟩
abbrev main_cst_23 : Ref sig .tc := ⟨.hbm, 88, rfl⟩
abbrev main_call3_v0 : Ref sig .tc := ⟨.hbm, 89, rfl⟩
abbrev main_v53 : Ref sig .tc := ⟨.hbm, 90, rfl⟩
abbrev main_cst_24 : Ref sig .tc := ⟨.hbm, 91, rfl⟩
abbrev main_v54 : Ref sig .tc := ⟨.hbm, 92, rfl⟩
abbrev main_v55 : Ref sig .tc := ⟨.hbm, 93, rfl⟩
abbrev main_cst_25 : Ref sig .tc := ⟨.hbm, 94, rfl⟩
abbrev main_v56 : Ref sig .tc := ⟨.hbm, 95, rfl⟩
abbrev main_cst_26 : Ref sig .tc := ⟨.hbm, 96, rfl⟩
abbrev main_v57 : Ref sig .tc := ⟨.hbm, 97, rfl⟩
abbrev main_cst_27 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_28 : Ref sig .tc := ⟨.hbm, 102, rfl⟩
abbrev main_v61 : Ref sig .tc := ⟨.hbm, 103, rfl⟩
abbrev main_v62 : Ref sig .tc := ⟨.hbm, 104, rfl⟩
abbrev main_cst_29 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_cst_30 : Ref sig .tc := ⟨.hbm, 110, rfl⟩
abbrev main_call4_v0 : Ref sig .tc := ⟨.hbm, 111, rfl⟩
abbrev main_call4_v1 : Ref sig .tc := ⟨.hbm, 112, rfl⟩
abbrev main_v67 : Ref sig .tc := ⟨.hbm, 113, rfl⟩
abbrev main_cst_31 : Ref sig .tc := ⟨.hbm, 114, rfl⟩
abbrev main_v68 : Ref sig .tc := ⟨.hbm, 115, rfl⟩
abbrev main_cst_32 : Ref sig .tc := ⟨.hbm, 116, rfl⟩
abbrev main_v69 : Ref sig .tc := ⟨.hbm, 117, rfl⟩
abbrev main_cst_33 : Ref sig .tc := ⟨.hbm, 118, rfl⟩
abbrev main_v70 : Ref sig .tc := ⟨.hbm, 119, rfl⟩
abbrev main_cst_34 : Ref sig .tc := ⟨.hbm, 120, rfl⟩
abbrev main_v71 : Ref sig .tc := ⟨.hbm, 121, rfl⟩
abbrev main_v72 : Ref sig .tc := ⟨.hbm, 122, rfl⟩
abbrev main_cst_35 : Ref sig .tc := ⟨.hbm, 123, rfl⟩
abbrev main_call5_v0 : Ref sig .tc := ⟨.hbm, 124, rfl⟩
abbrev main_v73 : Ref sig .tc := ⟨.hbm, 125, rfl⟩
abbrev main_cst_36 : Ref sig .tc := ⟨.hbm, 126, rfl⟩
abbrev main_v74 : Ref sig .tc := ⟨.hbm, 127, rfl⟩
abbrev main_v75 : Ref sig .tc := ⟨.hbm, 128, rfl⟩
abbrev main_cst_37 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85_0 : Ref sig .tc := ⟨.hbm, 139, rfl⟩
abbrev main_v85_1 : Ref sig .tc := ⟨.hbm, 140, rfl⟩
abbrev main_v85_2 : Ref sig .tc := ⟨.hbm, 141, rfl⟩
abbrev main_v85_3 : Ref sig .tc := ⟨.hbm, 142, rfl⟩
abbrev main_v85_4 : Ref sig .tc := ⟨.hbm, 143, rfl⟩
abbrev main_v85_5 : Ref sig .tc := ⟨.hbm, 144, rfl⟩
abbrev cc0_stg6_0 : Ref sig .tc := ⟨.vmem, 0, rfl⟩
abbrev cc0_stg7_0 : Ref sig .tc := ⟨.vmem, 1, rfl⟩
abbrev cc0_stg8_0 : Ref sig .tc := ⟨.vmem, 2, rfl⟩
abbrev cc0_stg9_0 : Ref sig .tc := ⟨.vmem, 3, rfl⟩
abbrev cc0_stg10_0 : Ref sig .tc := ⟨.vmem, 4, rfl⟩
abbrev cc0_stg11_0 : Ref sig .tc := ⟨.vmem, 5, rfl⟩
abbrev cc0_stg12_0 : Ref sig .tc := ⟨.vmem, 6, rfl⟩
abbrev cc0_stg13_0 : Ref sig .tc := ⟨.vmem, 7, rfl⟩
abbrev cc0_stg14_0 : Ref sig .tc := ⟨.vmem, 8, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg5_0 : Ref sig .tc := ⟨.smem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x2304 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x2304 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x8x2304 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S512x8x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x2304 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4096x2048 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2048x2304 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4096x2304 .fp8e5m2 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.Reads.lean ====
/-
  What loads and stores of whole buffers and of single words read, as plain functions of the buffers' contents.
-/
module

public import Idealize.ShloMosaic.Lib.VecWindow
public import Idealize.ShloMosaic.Lib.WholeRead

@[expose] public section

noncomputable section

namespace Idealize.ShloMosaic

variable {sig : RefSig} {Val : EltTy → Type} {κ : Kind} {sp : Space} {e : EltTy}

/-- The word of a table of words at a position. -/
def cell {α : Type} {n : ℕ} (X : (⟨1, ![n]⟩ : Shape).Idx → α) (k : ℕ) (h : k < n := by decide) : α :=
  X (fun a => ⟨k, by rw [Fin.fin_one_eq_zero a]; exact h⟩)

namespace Memref.IsWhole

variable {s : Shape} {m : Memref sig κ sp s e}

/-- A load of a whole memref's own sizes, the memref held at contents that read `X`, reads `X`. -/
theorem readAt_full_unread (h : m.IsWhole) (X : s.Idx → Val e) {off : Fin s.rank → ℕ} (inb : ∀ a, off a + s.size a ≤ s.size a) :
    m.view.readAt Val (Rect.unit off s.size inb).toLoadRect (h.unread X) = X := by
  rw [View.readAt_full, h.read_unread]

end Memref.IsWhole

/-- A load of one word of a table held at contents that read `X` reads the word. -/
theorem Memref.IsWhole.readAt_cell {n : ℕ} {m : Memref sig κ sp ⟨1, ![n]⟩ e} (h : m.IsWhole) (X : (⟨1, ![n]⟩ : Shape).Idx → Val e)
    (k : ℕ) (hk : k < n) (inb : ∀ a, (![k] : Fin 1 → ℕ) a + (![1] : Fin 1 → ℕ) a ≤ (⟨1, ![n]⟩ : Shape).size a)
    (x : (Rect.unit (s := ⟨1, ![n]⟩) ![k] ![1] inb).toLoadRect.shape.Idx) :
    m.view.readAt Val (Rect.unit (s := ⟨1, ![n]⟩) ![k] ![1] inb).toLoadRect (h.unread X) x = cell X k hk := by
  rw [h.readAt_unread]
  refine congrArg X (funext fun a => Fin.ext ?_)
  obtain rfl : a = 0 := Fin.fin_one_eq_zero a
  show k + 1 * (x 0).val = k
  have : (x 0).val < 1 := (x 0).isLt
  omega

/-- Sixteen stores of one word each, one to every word of a table of sixteen, leave the table the words make. -/
theorem View.read_words16 (v : View sig κ sp ⟨1, ![16]⟩ e) (f : v.ty.Contents Val) (G : (⟨1, ![16]⟩ : Shape).Idx → Val e)
    {w0 w1 w2 w3 w4 w5 w6 w7 w8 w9 w10 w11 w12 w13 w14 w15 : Val e}
    (i0 : ∀ a, (![0] : Fin 1 → ℕ) a + (![1] : Fin 1 → ℕ) a ≤ (⟨1, ![16]⟩ : Shape).size a)
    (i1 : ∀ a, (![1] : Fin 1 → ℕ) a + (![1] : Fin 1 → ℕ) a ≤ (⟨1, ![16]⟩ : Shape).size a)
    (i2 : ∀ a, (![2] : Fin 1 → ℕ) a + (![1] : Fin 1 → ℕ) a ≤ (⟨1, ![16]⟩ : Shape).size a)
    (i3 : ∀ a, (![3] : Fin 1 → ℕ) a + (![1] : Fin 1 → ℕ) a ≤ (⟨1, ![16]⟩ : Shape).size a)
    (i4 : ∀ a, (![4] : Fin 1 → ℕ) a + (![1] : Fin 1 → ℕ) a ≤ (⟨1, ![16]⟩ : Shape).size a)
    (i5 : ∀ a, (![5] : Fin 1 → ℕ) a + (![1] : Fin 1 → ℕ) a ≤ (⟨1, ![16]⟩ : Shape).size a)
    (i6 : ∀ a, (![6] : Fin 1 → ℕ) a + (![1] : Fin 1 → ℕ) a ≤ (⟨1, ![16]⟩ : Shape).size a)
    (i7 : ∀ a, (![7] : Fin 1 → ℕ) a + (![1] : Fin 1 → ℕ) a ≤ (⟨1, ![16]⟩ : Shape).size a)
    (i8 : ∀ a, (![8] : Fin 1 → ℕ) a + (![1] : Fin 1 → ℕ) a ≤ (⟨1, ![16]⟩ : Shape).size a)
    (i9 : ∀ a, (![9] : Fin 1 → ℕ) a + (![1] : Fin 1 → ℕ) a ≤ (⟨1, ![16]⟩ : Shape).size a)
    (i10 : ∀ a, (![10] : Fin 1 → ℕ) a + (![1] : Fin 1 → ℕ) a ≤ (⟨1, ![16]⟩ : Shape).size a)
    (i11 : ∀ a, (![11] : Fin 1 → ℕ) a + (![1] : Fin 1 → ℕ) a ≤ (⟨1, ![16]⟩ : Shape).size a)
    (i12 : ∀ a, (![12] : Fin 1 → ℕ) a + (![1] : Fin 1 → ℕ) a ≤ (⟨1, ![16]⟩ : Shape).size a)
    (i13 : ∀ a, (![13] : Fin 1 → ℕ) a + (![1] : Fin 1 → ℕ) a ≤ (⟨1, ![16]⟩ : Shape).size a)
    (i14 : ∀ a, (![14] : Fin 1 → ℕ) a + (![1] : Fin 1 → ℕ) a ≤ (⟨1, ![16]⟩ : Shape).size a)
    (i15 : ∀ a, (![15] : Fin 1 → ℕ) a + (![1] : Fin 1 → ℕ) a ≤ (⟨1, ![16]⟩ : Shape).size a)
    (h0 : w0 = cell G 0) (h1 : w1 = cell G 1) (h2 : w2 = cell G 2) (h3 : w3 = cell G 3)
    (h4 : w4 = cell G 4) (h5 : w5 = cell G 5) (h6 : w6 = cell G 6) (h7 : w7 = cell G 7)
    (h8 : w8 = cell G 8) (h9 : w9 = cell G 9) (h10 : w10 = cell G 10) (h11 : w11 = cell G 11)
    (h12 : w12 = cell G 12) (h13 : w13 = cell G 13) (h14 : w14 = cell G 14) (h15 : w15 = cell G 15) :
    v.read Val (v.writes Val f [
        ⟨Rect.unit (s := ⟨1, ![16]⟩) ![15] ![1] i15, fun _ => w15⟩,
        ⟨Rect.unit (s := ⟨1, ![16]⟩) ![14] ![1] i14, fun _ => w14⟩,
        ⟨Rect.unit (s := ⟨1, ![16]⟩) ![13] ![1] i13, fun _ => w13⟩,
        ⟨Rect.unit (s := ⟨1, ![16]⟩) ![12] ![1] i12, fun _ => w12⟩,
        ⟨Rect.unit (s := ⟨1, ![16]⟩) ![11] ![1] i11, fun _ => w11⟩,
        ⟨Rect.unit (s := ⟨1, ![16]⟩) ![10] ![1] i10, fun _ => w10⟩,
        ⟨Rect.unit (s := ⟨1, ![16]⟩) ![9] ![1] i9, fun _ => w9⟩,
        ⟨Rect.unit (s := ⟨1, ![16]⟩) ![8] ![1] i8, fun _ => w8⟩,
        ⟨Rect.unit (s := ⟨1, ![16]⟩) ![7] ![1] i7, fun _ => w7⟩,
        ⟨Rect.unit (s := ⟨1, ![16]⟩) ![6] ![1] i6, fun _ => w6⟩,
        ⟨Rect.unit (s := ⟨1, ![16]⟩) ![5] ![1] i5, fun _ => w5⟩,
        ⟨Rect.unit (s := ⟨1, ![16]⟩) ![4] ![1] i4, fun _ => w4⟩,
        ⟨Rect.unit (s := ⟨1, ![16]⟩) ![3] ![1] i3, fun _ => w3⟩,
        ⟨Rect.unit (s := ⟨1, ![16]⟩) ![2] ![1] i2, fun _ => w2⟩,
        ⟨Rect.unit (s := ⟨1, ![16]⟩) ![1] ![1] i1, fun _ => w1⟩,
        ⟨Rect.unit (s := ⟨1, ![16]⟩) ![0] ![1] i0, fun _ => w0⟩]) = G := by
  subst h0 h1 h2 h3 h4 h5 h6 h7 h8 h9 h10 h11 h12 h13 h14 h15
  funext y
  refine View.read_writes_apply_of_pieces v f G _ ?_ y (View.cover_of_tiled _ ![1] rfl y)
  intro p hp x
  simp only [List.mem_cons, List.not_mem_nil, or_false] at hp
  rcases hp with rfl | rfl | rfl | rfl | rfl | rfl | rfl | rfl | rfl | rfl | rfl | rfl | rfl | rfl | rfl | rfl
  all_goals
    refine congrArg G (funext fun a => Fin.ext ?_)
    obtain rfl : a = 0 := Fin.fin_one_eq_zero a
    have hx : (x 0).val < 1 := (x 0).isLt
    show _ = _ + 1 * (x 0).val
    have h0 : (x 0).val = 0 := by omega
    rw [h0]; rfl

/-- Three stores of one word each, one to every word of a table of three, leave the table the words make. -/
theorem View.read_words3 (v : View sig κ sp ⟨1, ![3]⟩ e) (f : v.ty.Contents Val) (G : (⟨1, ![3]⟩ : Shape).Idx → Val e)
    {w0 w1 w2 : Val e}
    (i0 : ∀ a, (![0] : Fin 1 → ℕ) a + (![1] : Fin 1 → ℕ) a ≤ (⟨1, ![3]⟩ : Shape).size a)
    (i1 : ∀ a, (![1] : Fin 1 → ℕ) a + (![1] : Fin 1 → ℕ) a ≤ (⟨1, ![3]⟩ : Shape).size a)
    (i2 : ∀ a, (![2] : Fin 1 → ℕ) a + (![1] : Fin 1 → ℕ) a ≤ (⟨1, ![3]⟩ : Shape).size a)
    (h0 : w0 = cell G 0) (h1 : w1 = cell G 1) (h2 : w2 = cell G 2) :
    v.read Val (v.writes Val f [
        ⟨Rect.unit (s := ⟨1, ![3]⟩) ![2] ![1] i2, fun _ => w2⟩,
        ⟨Rect.unit (s := ⟨1, ![3]⟩) ![1] ![1] i1, fun _ => w1⟩,
        ⟨Rect.unit (s := ⟨1, ![3]⟩) ![0] ![1] i0, fun _ => w0⟩]) = G := by
  subst h0 h1 h2
  funext y
  refine View.read_writes_apply_of_pieces v f G _ ?_ y (View.cover_of_tiled _ ![1] rfl y)
  intro p hp x
  simp only [List.mem_cons, List.not_mem_nil, or_false] at hp
  rcases hp with rfl | rfl | rfl
  all_goals
    refine congrArg G (funext fun a => Fin.ext ?_)
    obtain rfl : a = 0 := Fin.fin_one_eq_zero a
    have hx : (x 0).val < 1 := (x 0).isLt
    show _ = _ + 1 * (x 0).val
    have h0 : (x 0).val = 0 := by omega
    rw [h0]; rfl

end Idealize.ShloMosaic

end
-- ==== Proof.KI.Grid.lean ====
/-
  The grid in closed form: which of the kernel's five conditions hold at a grid point, and the offsets of its partial
  accesses, as plain arithmetic on the point's number.
-/
module

public import proofs.«01_k».proof.Proof.Gen.KernelIdeal.Frame
public import proofs.«01_k».proof.Proof.Reads
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The conditions -/

theorem cond1_iff : ∀ t : Fin grid0.N, k0_cond1 (grid0.coords t) = 1#1 ↔ t.val = 0 := by decide +kernel
theorem cond2_iff : ∀ t : Fin grid0.N, k0_cond2 (grid0.coords t) = 1#1 ↔ t.val < 8 := by decide +kernel
theorem cond3_iff : ∀ t : Fin grid0.N, k0_cond3 (grid0.coords t) = 1#1 ↔ 8 ≤ t.val ∧ t.val < 16 := by decide +kernel
theorem cond4_iff : ∀ t : Fin grid0.N, k0_cond4 (grid0.coords t) = 1#1 ↔ 16 ≤ t.val := by decide +kernel
theorem cond5_iff : ∀ t : Fin grid0.N, k0_cond5 (grid0.coords t) = 1#1 ↔ t.val = 23 := by decide +kernel

/-! ## The offsets

The token phase's row, `(i - 8) * 512` as a 32-bit word: below point 8 it wraps, so the closed form keeps the wrap. -/

/-- The first row of the token tile at a point. -/
def tokRow (i : grid0.Coords) : ℕ := ((i 0).val * 512 + 4294963200) % 4294967296
/-- The plane of the stored tokens the weight gradient reads at a point. -/
def dwPlane (i : grid0.Coords) : ℕ := ((i 0).val + 4294967280) % 4294967296

theorem off2_eq : ∀ i : grid0.Coords, k0_off2 i = ![0, tokRow i, 0] := by decide +kernel
instance closedOff2 (i : grid0.Coords) : ClosedOff (k0_off2 i) := ⟨![0, tokRow i, 0], off2_eq i⟩
theorem off3_eq : ∀ i : grid0.Coords, k0_off3 i = ![1, tokRow i, 0] := by decide +kernel
instance closedOff3 (i : grid0.Coords) : ClosedOff (k0_off3 i) := ⟨![1, tokRow i, 0], off3_eq i⟩
theorem off4_eq : ∀ i : grid0.Coords, k0_off4 i = ![2, tokRow i, 0] := by decide +kernel
instance closedOff4 (i : grid0.Coords) : ClosedOff (k0_off4 i) := ⟨![2, tokRow i, 0], off4_eq i⟩
theorem off5_eq : ∀ i : grid0.Coords, k0_off5 i = ![3, tokRow i, 0] := by decide +kernel
instance closedOff5 (i : grid0.Coords) : ClosedOff (k0_off5 i) := ⟨![3, tokRow i, 0], off5_eq i⟩
theorem off6_eq : ∀ i : grid0.Coords, k0_off6 i = ![4, tokRow i, 0] := by decide +kernel
instance closedOff6 (i : grid0.Coords) : ClosedOff (k0_off6 i) := ⟨![4, tokRow i, 0], off6_eq i⟩
theorem off7_eq : ∀ i : grid0.Coords, k0_off7 i = ![5, tokRow i, 0] := by decide +kernel
instance closedOff7 (i : grid0.Coords) : ClosedOff (k0_off7 i) := ⟨![5, tokRow i, 0], off7_eq i⟩
theorem off8_eq : ∀ i : grid0.Coords, k0_off8 i = ![6, tokRow i, 0] := by decide +kernel
instance closedOff8 (i : grid0.Coords) : ClosedOff (k0_off8 i) := ⟨![6, tokRow i, 0], off8_eq i⟩
theorem off9_eq : ∀ i : grid0.Coords, k0_off9 i = ![7, tokRow i, 0] := by decide +kernel
instance closedOff9 (i : grid0.Coords) : ClosedOff (k0_off9 i) := ⟨![7, tokRow i, 0], off9_eq i⟩
theorem off10_eq : ∀ i : grid0.Coords, k0_off10 i = ![tokRow i, 0] := by decide +kernel
instance closedOff10 (i : grid0.Coords) : ClosedOff (k0_off10 i) := ⟨![tokRow i, 0], off10_eq i⟩
theorem off11_eq : ∀ i : grid0.Coords, k0_off11 i = ![dwPlane i, 0, 0] := by decide +kernel
instance closedOff11 (i : grid0.Coords) : ClosedOff (k0_off11 i) := ⟨![dwPlane i, 0, 0], off11_eq i⟩

/-- At the points of the token phase the row is 512 times the tile's number. -/
theorem tokRow_of : ∀ t : Fin grid0.N, 8 ≤ t.val → t.val < 16 → tokRow (grid0.coords t) = 512 * (t.val - 8) := by decide +kernel
theorem dwPlane_of : ∀ t : Fin grid0.N, 16 ≤ t.val → dwPlane (grid0.coords t) = t.val - 16 := by decide +kernel
theorem coord_eq : ∀ t : Fin grid0.N, (grid0.coords t 0).val = t.val := by decide +kernel

theorem cond3_coord : ∀ i : grid0.Coords, k0_cond3 i = 1#1 → 8 ≤ (i 0).val ∧ (i 0).val < 16 := by decide +kernel
theorem cond4_coord : ∀ i : grid0.Coords, k0_cond4 i = 1#1 → 16 ≤ (i 0).val := by decide +kernel
theorem tokRow_lt (i : grid0.Coords) (h : k0_cond3 i = 1#1) : tokRow i + 512 ≤ 4096 := by
  have := cond3_coord i h; unfold tokRow; omega
theorem dw_inb (i : grid0.Coords) (h : k0_cond4 i = 1#1) :
    ∀ a, (![dwPlane i, 0, 0] : Fin 3 → ℕ) a + S1x4096x256.size a ≤ S8x4096x256.size a :=
  off11_eq i ▸ Facts₀.k0_off11_inb i h

end Cert.KernelIdeal.Hand

end
-- ==== Proof.KI.Spec.lean ====
/-
  What the kernel's stores hold, as functions of what its blocks and scratch hold: the scales of a history, the codes and
  products of a token tile, the histories' final words.
-/
module

public import proofs.«01_k».proof.Proof.KI.Grid
public import proofs.«01_k».proof.Proof.Reads
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-! ## The scales -/

/-- A history's sixteen words handed to a function of sixteen words. -/
def of16 {α : Sort*} (f : Elt F .f32 → Elt F .f32 → Elt F .f32 → Elt F .f32 → Elt F .f32 → Elt F .f32 → Elt F .f32 → Elt F .f32 →
    Elt F .f32 → Elt F .f32 → Elt F .f32 → Elt F .f32 → Elt F .f32 → Elt F .f32 → Elt F .f32 → Elt F .f32 → α)
    (h : Vec F S16 .f32) : α :=
  f (cell h 0) (cell h 1) (cell h 2) (cell h 3) (cell h 4) (cell h 5) (cell h 6) (cell h 7)
    (cell h 8) (cell h 9) (cell h 10) (cell h 11) (cell h 12) (cell h 13) (cell h 14) (cell h 15)

theorem of16_eq {α : Sort*} (f : Elt F .f32 → Elt F .f32 → Elt F .f32 → Elt F .f32 → Elt F .f32 → Elt F .f32 → Elt F .f32 →
    Elt F .f32 → Elt F .f32 → Elt F .f32 → Elt F .f32 → Elt F .f32 → Elt F .f32 → Elt F .f32 → Elt F .f32 → Elt F .f32 → α)
    {h : Vec F S16 .f32} {w0 w1 w2 w3 w4 w5 w6 w7 w8 w9 w10 w11 w12 w13 w14 w15 : Elt F .f32}
    (h0 : w0 = cell h 0) (h1 : w1 = cell h 1) (h2 : w2 = cell h 2) (h3 : w3 = cell h 3)
    (h4 : w4 = cell h 4) (h5 : w5 = cell h 5) (h6 : w6 = cell h 6) (h7 : w7 = cell h 7)
    (h8 : w8 = cell h 8) (h9 : w9 = cell h 9) (h10 : w10 = cell h 10) (h11 : w11 = cell h 11)
    (h12 : w12 = cell h 12) (h13 : w13 = cell h 13) (h14 : w14 = cell h 14) (h15 : w15 = cell h 15) :
    f w0 w1 w2 w3 w4 w5 w6 w7 w8 w9 w10 w11 w12 w13 w14 w15 = of16 f h := by
  subst h0 h1 h2 h3 h4 h5 h6 h7 h8 h9 h10 h11 h12 h13 h14 h15; rfl

/-- The exponent search of the tokens' scale, part by part as the kernel runs it. -/
def xSearch (h : Vec F S16 .f32) : IVec S8x128 32 :=
  k0_pay14 (of16 k0_pay8 h) (k0_pay11 (of16 k0_pay8 h) k0_pay9 k0_pay10) (k0_pay12 (of16 k0_pay8 h) k0_pay9 k0_pay10)
/-- The tokens' scale, -/
def xScale (h : Vec F S16 .f32) : Elt F .f32 := k0_pay16 (of16 k0_pay7 h) (k0_pay13 (of16 k0_pay8 h)) (xSearch h)
/-- and its inverse. -/
def xInv (h : Vec F S16 .f32) : Elt F .f32 := k0_pay17 (of16 k0_pay7 h) (k0_pay13 (of16 k0_pay8 h)) (xSearch h)
/-- The weights' scale, -/
def wScale (h : Vec F S16 .f32) : Elt F .f32 :=
  k0_pay23 (of16 k0_pay18 h) (of16 k0_pay19 h) (k0_pay21 (of16 k0_pay19 h) (of16 k0_pay20 h))
/-- and its inverse. -/
def wInv (h : Vec F S16 .f32) : Elt F .f32 :=
  k0_pay25 (F := F) (k0_pay24 (of16 k0_pay18 h) (of16 k0_pay19 h) (k0_pay21 (of16 k0_pay19 h) (of16 k0_pay20 h)))
/-- The gradient's greatest word through the search's parts. -/
def dySearch (h : Vec F S16 .f32) : IVec S8x128 32 :=
  k0_pay30 (k0_pay27 (of16 k0_pay26 h)) (k0_pay28 (of16 k0_pay26 h)) (k0_pay29 (of16 k0_pay26 h))
def dyStep (h : Vec F S16 .f32) : IVec S8x128 32 :=
  k0_pay31 (k0_pay27 (of16 k0_pay26 h)) (k0_pay28 (of16 k0_pay26 h)) (k0_pay29 (of16 k0_pay26 h))
/-- The gradient's scale, -/
def dyScale (h : Vec F S16 .f32) : Elt F .f32 := k0_pay33 (of16 k0_pay26 h) (k0_pay27 (of16 k0_pay26 h)) (dySearch h) (dyStep h)
/-- and its inverse. -/
def dyInv (h : Vec F S16 .f32) : Elt F .f32 := k0_pay34 (of16 k0_pay26 h) (k0_pay27 (of16 k0_pay26 h)) (dySearch h) (dyStep h)

/-- The table of the three inverses. -/
def invs (h1 h2 h3 : Vec F S16 .f32) : Vec F S3 .f32 :=
  fun k => if (k 0).val = 0 then xInv h1 else if (k 0).val = 1 then wInv h2 else dyInv h3

/-! ## A token tile -/

/-- The codes of a tile of tokens, -/
def xCode (x : Vec F S512x2048 .bf16) (inv : Elt F .f32) : Vec F S512x2048 .fp8e4m3 := k0_pay41 x inv
/-- and of a tile of the gradient. -/
def dyCode (dy : Vec F S512x2304 .bf16) (inv : Elt F .f32) : Vec F S512x2304 .fp8e5m2 :=
  k0_pay43 (k0_pay42 dy inv) (Scalar.ofBits .f32 0xC7600000#32) (Scalar.ofBits .f32 0x47600000#32)

/-- A tile's codes put at their rows of the eight stored planes. -/
def putX (xq : Vec F S8x4096x256 .fp8e4m3) (r : ℕ) (v : Vec F S512x2048 .fp8e4m3) : Vec F S8x4096x256 .fp8e4m3 :=
  VecWindow.put (VecWindow.put (VecWindow.put (VecWindow.put (VecWindow.put (VecWindow.put (VecWindow.put (VecWindow.put xq
    ![0, r, 0] S1x512x256.size (k0_pay44 v)) ![1, r, 0] S1x512x256.size (k0_pay45 v)) ![2, r, 0] S1x512x256.size (k0_pay46 v))
    ![3, r, 0] S1x512x256.size (k0_pay47 v)) ![4, r, 0] S1x512x256.size (k0_pay48 v)) ![5, r, 0] S1x512x256.size (k0_pay49 v))
    ![6, r, 0] S1x512x256.size (k0_pay50 v)) ![7, r, 0] S1x512x256.size (k0_pay51 v)

/-! ## The histories at the end -/

/-- A history moved by one word, a new word last. -/
def shift (h : Vec F S16 .f32) (v : Elt F .f32) : Vec F S16 .f32 :=
  fun k => if hk : (k 0).val + 1 < 16 then cell h ((k 0).val + 1) hk else v

theorem cell_shift_last (h : Vec F S16 .f32) (v : Elt F .f32) : v = cell (shift h v) 15 := rfl

end Cert.KernelIdeal.Hand

end
-- ==== Proof.KI.Sched.lean ====
/-
  The schedule: at which grid points each result block is stored, written back, and holds what an earlier point left.
-/
module

public import proofs.«01_k».proof.Proof.KI.Grid
public import Idealize.ShloMosaic.Lib.Pipeline.TableIdle

@[expose] public section

set_option maxRecDepth 16384

noncomputable section

namespace Cert.KernelIdeal.Hand

open Cert.KernelIdeal.Gen
open Idealize.ShloMosaic Idealize.ShloMosaic.TcCoe

/-! ## Points that do not store a result's block -/

theorem idle_tok : ∀ t : Fin grid0.N, (!(k0_cond3 (grid0.coords t) == 1#1)) = !decide (8 ≤ t.val ∧ t.val < 16) := by decide +kernel
theorem idle_dw : ∀ t : Fin grid0.N, (!(k0_cond4 (grid0.coords t) == 1#1)) = !decide (16 ≤ t.val) := by decide +kernel
theorem idle_last : ∀ t : Fin grid0.N, (!(k0_cond5 (grid0.coords t) == 1#1)) = !decide (t.val = 23) := by decide +kernel
theorem idle_first : ∀ t : Fin grid0.N, (!(k0_cond1 (grid0.coords t) == 1#1)) = !decide (t.val = 0) := by decide +kernel
theorem idle_weight : ∀ t : Fin grid0.N, (!(k0_cond2 (grid0.coords t) == 1#1)) = !decide (t.val < 8) := by decide +kernel

/-! ## Points that write a result's block back -/

theorem flush6 : ∀ t : Fin grid0.N, win0_6.flush t = decide ((8 ≤ t.val ∧ t.val < 15) ∨ t.val = 23) := by decide +kernel
theorem flush7 : ∀ t : Fin grid0.N, win0_7.flush t = decide ((8 ≤ t.val ∧ t.val < 15) ∨ t.val = 23) := by decide +kernel
theorem flush8 : ∀ t : Fin grid0.N, win0_8.flush t = decide (16 ≤ t.val) := by decide +kernel
theorem flush12 : ∀ t : Fin grid0.N, win0_12.flush t = decide ((8 ≤ t.val ∧ t.val < 15) ∨ t.val = 23) := by decide +kernel
theorem flush16 : ∀ t : Fin grid0.N, win0_16.flush t = decide ((8 ≤ t.val ∧ t.val < 15) ∨ t.val = 23) := by decide +kernel
theorem flush14 : ∀ t : Fin grid0.N, win0_14.flush t = decide (t.val < 7 ∨ t.val = 23) := by decide +kernel
theorem flush9 : ∀ t : Fin grid0.N, win0_9.flush t = decide (t.val = 23) := by decide +kernel
theorem flush10 : ∀ t : Fin grid0.N, win0_10.flush t = decide (t.val = 23) := by decide +kernel
theorem flush11 : ∀ t : Fin grid0.N, win0_11.flush t = decide (t.val = 23) := by decide +kernel
theorem flush13 : ∀ t : Fin grid0.N, win0_13.flush t = decide (t.val = 23) := by decide +kernel
theorem flush15 : ∀ t : Fin grid0.N, win0_15.flush t = decide (t.val = 23) := by decide +kernel
theorem flush17 : ∀ t : Fin grid0.N, win0_17.flush t = decide (t.val = 23) := by decide +kernel

/-! ## Points at which a result's block is not yet stored -/

theorem fresh6 : ∀ n, n ≤ 24 → Pipeline.Cfg.fresh cfg0 6 n = decide (n ≤ 15 ∨ n = 24) :=
  Pipeline.Cfg.fresh_tab cfg0 6 _ rfl (by decide +kernel)
theorem fresh7 : ∀ n, n ≤ 24 → Pipeline.Cfg.fresh cfg0 7 n = decide (n ≤ 15 ∨ n = 24) :=
  Pipeline.Cfg.fresh_tab cfg0 7 _ rfl (by decide +kernel)
theorem fresh12 : ∀ n, n ≤ 24 → Pipeline.Cfg.fresh cfg0 12 n = decide (n ≤ 15 ∨ n = 24) :=
  Pipeline.Cfg.fresh_tab cfg0 12 _ rfl (by decide +kernel)
theorem fresh16 : ∀ n, n ≤ 24 → Pipeline.Cfg.fresh cfg0 16 n = decide (n ≤ 15 ∨ n = 24) :=
  Pipeline.Cfg.fresh_tab cfg0 16 _ rfl (by decide +kernel)
theorem fresh14 : ∀ n, n ≤ 24 → Pipeline.Cfg.fresh cfg0 14 n = decide (n ≤ 7 ∨ n = 24) :=
  Pipeline.Cfg.fresh_tab cfg0 14 _ rfl (by decide +kernel)
theorem fresh13 : ∀ n, n ≤ 24 → Pipeline.Cfg.fresh cfg0 13 n = decide (n = 0 ∨ n = 24) :=
  Pipeline.Cfg.fresh_tab cfg0 13 _ rfl (by decide +kernel)
theorem fresh15 : ∀ n, n ≤ 24 → Pipeline.Cfg.fresh cfg0 15 n = decide (n = 0 ∨ n = 24) :=
  Pipeline.Cfg.fresh_tab cfg0 15 _ rfl (by decide +kernel)
theorem fresh17 : ∀ n, n ≤ 24 → Pipeline.Cfg.fresh cfg0 17 n = decide (n = 0 ∨ n = 24) :=
  Pipeline.Cfg.fresh_tab cfg0 17 _ rfl (by decide +kernel)

end Cert.KernelIdeal.Hand

end
-- ==== Proof.KI.State.lean ====
/-
  What the kernel's scratch buffers hold before each grid point, in closed form: the codes stored so far, the running maxima,
  the inverses of the scales — and how each of the three phases extends it.
-/
module

public import proofs.«01_k».proof.Proof.KI.Spec
public import proofs.«01_k».proof.Proof.KI.Sched
public import Idealize.ShloMosaic.Lib.ValueLayout
public import Idealize.ShloMosaic.Lib.ValueIdx

@[expose] public section

set_option maxRecDepth 16384

noncomputable section

namespace Cert.KernelIdeal.Hand

open Cert.KernelIdeal.Gen
open Idealize.ShloMosaic Idealize.ShloMosaic.TcCoe Idealize.ShloMosaic.Tactic
open Idealize.ShloMosaic.ValueIdx

variable {F : FTy → Type} [FloatOps F]

/-! ## The eight planes -/

theorem plane_apply (o : ℕ) (v : Vec F S512x2048 .fp8e4m3) (hs : S512x2048.Slices ![0, o] S512x256)
    (hc : S512x256.ShapeCasts S1x512x256) (a : Fin 512) (b : Fin 256) (k : Fin 2048) (hk : k.val = o + b.val) :
    shapeCast S1x512x256 (extractStridedSlice S512x256 ![0, o] v hs) hc (ix3 0 a b) = v (ix2 a k) := by
  rw [shapeCast_ab_1ab_apply]
  exact slice2_axis1_apply o v hs a b k hk

theorem put_plane (p r : ℕ) (g : Vec F S8x4096x256 .fp8e4m3) (w : Vec F S1x512x256 .fp8e4m3) (y : S8x4096x256.Idx) :
    VecWindow.put g ![p, r, 0] S1x512x256.size w y
      = if h : (y 0).val = p ∧ r ≤ (y 1).val ∧ (y 1).val < r + 512 then w (ix3 0 ⟨(y 1).val - r, by omega⟩ (y 2)) else g y := by
  unfold VecWindow.put
  by_cases h : (y 0).val = p ∧ r ≤ (y 1).val ∧ (y 1).val < r + 512
  · have h' : ∀ a : Fin 3, (![p, r, 0] : Fin 3 → ℕ) a ≤ (y a).val ∧ (y a).val < (![p, r, 0] : Fin 3 → ℕ) a + S1x512x256.size a := by
      intro a
      match a with
      | 0 => exact ⟨h.1.ge, by show _ < p + 1; omega⟩
      | 1 => exact ⟨h.2.1, h.2.2⟩
      | 2 => exact ⟨Nat.zero_le _, by show _ < 0 + 256; have : (y 2).val < 256 := (y 2).isLt; omega⟩
    rw [dif_pos h, dif_pos h']
    refine congrArg w (funext fun a => Fin.ext ?_)
    match a with
    | 0 => show (y 0).val - p = 0; omega
    | 1 => rfl
    | 2 => rfl
  · rw [dif_neg h, dif_neg]
    intro h'
    have h0 := h' 0
    have h1 := h' 1
    have e0 : p ≤ (y 0).val ∧ (y 0).val < p + 1 := h0
    have e1 : r ≤ (y 1).val ∧ (y 1).val < r + 512 := h1
    exact h ⟨by omega, e1⟩

theorem put_rows {n R C : ℕ} {α : Type} (r : ℕ) (g : (⟨2, ![R, C]⟩ : Shape).Idx → α) (w : (⟨2, ![n, C]⟩ : Shape).Idx → α)
    (y : (⟨2, ![R, C]⟩ : Shape).Idx) :
    VecWindow.put g ![r, 0] (⟨2, ![n, C]⟩ : Shape).size w y
      = if h : r ≤ (y 0).val ∧ (y 0).val < r + n then w (ix2 ⟨(y 0).val - r, by omega⟩ (y 1)) else g y := by
  unfold VecWindow.put
  by_cases h : r ≤ (y 0).val ∧ (y 0).val < r + n
  · have h' : ∀ a : Fin 2, (![r, 0] : Fin 2 → ℕ) a ≤ (y a).val ∧ (y a).val < (![r, 0] : Fin 2 → ℕ) a + (⟨2, ![n, C]⟩ : Shape).size a := by
      intro a
      match a with
      | 0 => exact h
      | 1 => exact ⟨Nat.zero_le _, by show _ < 0 + C; have : (y 1).val < C := (y 1).isLt; omega⟩
    rw [dif_pos h, dif_pos h']
    refine congrArg w (funext fun a => Fin.ext ?_)
    match a with
    | 0 => rfl
    | 1 => rfl
  · rw [dif_neg h, dif_neg]
    intro h'
    exact h (h' 0)

/-- A tile's codes, read back from the planes: plane `p` holds the columns from `256 p`. -/
theorem putX_apply (xq : Vec F S8x4096x256 .fp8e4m3) (r : ℕ) (v : Vec F S512x2048 .fp8e4m3) (y : S8x4096x256.Idx) :
    putX xq r v y = if h : r ≤ (y 1).val ∧ (y 1).val < r + 512 then
      v (ix2 ⟨(y 1).val - r, by omega⟩ ⟨256 * (y 0).val + (y 2).val, by
        have h0 : (y 0).val < 8 := (y 0).isLt
        have h2 : (y 2).val < 256 := (y 2).isLt
        omega⟩) else xq y := by
  unfold putX
  have h0 : (y 0).val < 8 := (y 0).isLt
  by_cases h : r ≤ (y 1).val ∧ (y 1).val < r + 512
  · rw [dif_pos h]
    have hp : (y 0).val = 0 ∨ (y 0).val = 1 ∨ (y 0).val = 2 ∨ (y 0).val = 3 ∨ (y 0).val = 4 ∨ (y 0).val = 5 ∨ (y 0).val = 6
        ∨ (y 0).val = 7 := by omega
    rcases hp with e | e | e | e | e | e | e | e <;>
    · repeat rw [put_plane, dif_neg (by omega)]
      rw [put_plane, dif_pos (by omega)]
      exact plane_apply _ v _ _ _ _ _ (by show 256 * (y 0).val + (y 2).val = _ + (y 2).val; omega)
  · rw [dif_neg h]
    repeat rw [put_plane, dif_neg (fun h' => h h'.2)]

/-- A cast to the same shape. -/
theorem pay52_eq (v : FVec F S512x2304 .fp8e5m2) : k0_pay52 v = v := shapeCast_self _ _

/-! ## The closed forms -/

variable (m : (ℓ : Loc nD τ sig) → Buf (Elt F) ℓ) (c : Dev nD)

/-- The grid point of a number, the last for a number past the grid. -/
def pt (n : ℕ) : Fin cfg0.N := ⟨min n 23, by show min n 23 < 24; omega⟩

theorem pt_val (t : Fin cfg0.N) : pt t.val = t := Fin.ext (by show min t.val 23 = t.val; have : t.val < 24 := t.isLt; omega)

/-- The histories of the tokens, -/
def H1 : Vec F S16 .f32 := iblk m c 0 (pt 0)
/-- the weights, -/
def H2 : Vec F S16 .f32 := iblk m c 1 (pt 0)
/-- and the gradient. -/
def H3 : Vec F S16 .f32 := iblk m c 2 (pt 0)
/-- Tile `k` of the tokens, -/
def tileX (k : ℕ) : Vec F S512x2048 .bf16 := iblk m c 3 (pt (8 + k))
/-- of the weights, -/
def tileW (k : ℕ) : Vec F S256x2304 .f32 := iblk m c 4 (pt k)
/-- and of the gradient. -/
def tileDy (k : ℕ) : Vec F S512x2304 .bf16 := iblk m c 5 (pt (8 + k))

theorem tileX_eq (t : Fin cfg0.N) (h : 8 ≤ t.val) : iblk m c 3 t = tileX m c (t.val - 8) := by
  have e : pt (8 + (t.val - 8)) = t := (congrArg pt (by omega)).trans (pt_val t)
  have key : ∀ p, p = t → (iblk m c 3 t : Vec F S512x2048 .bf16) = iblk m c 3 p := by rintro _ rfl; rfl
  exact key _ e
theorem tileW_eq (t : Fin cfg0.N) : iblk m c 4 t = tileW m c t.val := by
  have key : ∀ p, p = t → (iblk m c 4 t : Vec F S256x2304 .f32) = iblk m c 4 p := by rintro _ rfl; rfl
  exact key _ (pt_val t)
theorem tileDy_eq (t : Fin cfg0.N) (h : 8 ≤ t.val) : iblk m c 5 t = tileDy m c (t.val - 8) := by
  have e : pt (8 + (t.val - 8)) = t := (congrArg pt (by omega)).trans (pt_val t)
  have key : ∀ p, p = t → (iblk m c 5 t : Vec F S512x2304 .bf16) = iblk m c 5 p := by rintro _ rfl; rfl
  exact key _ e

/-- The codes of a tile of tokens, -/
def codeX (k : ℕ) : Vec F S512x2048 .fp8e4m3 := xCode (tileX m c k) (xInv (H1 m c))
/-- of weights, -/
def codeW (k : ℕ) : Vec F S256x2304 .fp8e4m3 := k0_pay5 (tileW m c k) (wInv (H2 m c))
/-- and of the gradient. -/
def codeDy (k : ℕ) : Vec F S512x2304 .fp8e5m2 := dyCode (tileDy m c k) (dyInv (H3 m c))

/-- The tokens' running maxima after `k` tiles, -/
def maxX : ℕ → Vec F S16x2048 .bf16
  | 0 => k0_pay35
  | k + 1 => k0_pay39 (tileX m c k) (maxX k)
/-- the weights', -/
def maxW : ℕ → Vec F S8x2304 .f32
  | 0 => k0_pay1 k0_pay36
  | k + 1 => k0_pay3 (tileW m c k) (maxW k)
/-- and the gradient's. -/
def maxDy : ℕ → Vec F S16x2304 .bf16
  | 0 => k0_pay2
  | k + 1 => k0_pay40 (tileDy m c k) (maxDy k)

/-- All the codes of the weights, -/
def allW : Vec F S2048x2304 .fp8e4m3 := fun y => codeW m c ((y 0).val / 256) (ix2 ⟨(y 0).val % 256, by omega⟩ (y 1))
/-- of the tokens, in their planes, -/
def allX : Vec F S8x4096x256 .fp8e4m3 := fun y => codeX m c ((y 1).val / 512)
  (ix2 ⟨(y 1).val % 512, by omega⟩ ⟨256 * (y 0).val + (y 2).val, by
    have h0 : (y 0).val < 8 := (y 0).isLt
    have h2 : (y 2).val < 256 := (y 2).isLt
    omega⟩)
/-- and of the gradient. -/
def allDy : Vec F S4096x2304 .fp8e5m2 := fun y => codeDy m c ((y 0).val / 512) (ix2 ⟨(y 0).val % 512, by omega⟩ (y 1))

/-- What the scratch buffers hold before point `n`. -/
structure Inv (n : ℕ) (xq : Vec F S8x4096x256 .fp8e4m3) (wq : Vec F S2048x2304 .fp8e4m3) (dyq : Vec F S4096x2304 .fp8e5m2)
    (ax : Vec F S16x2048 .bf16) (aw : Vec F S8x2304 .f32) (ady : Vec F S16x2304 .bf16) (inv : Vec F S3 .f32) : Prop where
  hinv : 1 ≤ n → inv = invs (H1 m c) (H2 m c) (H3 m c)
  hax : 1 ≤ n → ax = maxX m c (min (n - 8) 8)
  haw : 1 ≤ n → aw = maxW m c (min n 8)
  hady : 1 ≤ n → ady = maxDy m c (min (n - 8) 8)
  hwq : ∀ y : S2048x2304.Idx, (y 0).val < 256 * n → wq y = allW m c y
  hxq : ∀ y : S8x4096x256.Idx, (y 1).val < 512 * (n - 8) → xq y = allX m c y
  hdyq : ∀ y : S4096x2304.Idx, (y 0).val < 512 * (n - 8) → dyq y = allDy m c y

variable {m c}
variable {xq : Vec F S8x4096x256 .fp8e4m3} {wq : Vec F S2048x2304 .fp8e4m3} {dyq : Vec F S4096x2304 .fp8e5m2}
  {ax : Vec F S16x2048 .bf16} {aw : Vec F S8x2304 .f32} {ady : Vec F S16x2304 .bf16} {inv : Vec F S3 .f32}

theorem Inv.init : Inv m c 0 xq wq dyq ax aw ady inv :=
  ⟨by omega, by omega, by omega, by omega, by omega, by intro y h; omega, by intro y h; omega⟩

theorem put_codeW (n : ℕ) (hw : ∀ y : S2048x2304.Idx, (y 0).val < 256 * n → wq y = allW m c y) :
    ∀ y : S2048x2304.Idx, (y 0).val < 256 * (n + 1) → VecWindow.put wq ![256 * n, 0] S256x2304.size (codeW m c n) y = allW m c y := by
  intro y hy
  rw [show VecWindow.put wq ![256 * n, 0] S256x2304.size (codeW m c n) y = _ from put_rows (n := 256) _ _ _ _]
  by_cases h : 256 * n ≤ (y 0).val ∧ (y 0).val < 256 * n + 256
  · rw [dif_pos h]
    unfold allW
    have e : (y 0).val / 256 = n := by omega
    rw [e]
    exact congrArg (codeW m c n) (congrArg (fun a => ix2 a (y 1)) (Fin.ext (by show (y 0).val - 256 * n = (y 0).val % 256; omega)))
  · rw [dif_neg h]
    exact hw y (by omega)

theorem put_codeDy (n : ℕ) (hw : ∀ y : S4096x2304.Idx, (y 0).val < 512 * n → dyq y = allDy m c y) :
    ∀ y : S4096x2304.Idx, (y 0).val < 512 * (n + 1) → VecWindow.put dyq ![512 * n, 0] S512x2304.size (codeDy m c n) y = allDy m c y := by
  intro y hy
  rw [show VecWindow.put dyq ![512 * n, 0] S512x2304.size (codeDy m c n) y = _ from put_rows (n := 512) _ _ _ _]
  by_cases h : 512 * n ≤ (y 0).val ∧ (y 0).val < 512 * n + 512
  · rw [dif_pos h]
    unfold allDy
    have e : (y 0).val / 512 = n := by omega
    rw [e]
    exact congrArg (codeDy m c n) (congrArg (fun a => ix2 a (y 1)) (Fin.ext (by show (y 0).val - 512 * n = (y 0).val % 512; omega)))
  · rw [dif_neg h]
    exact hw y (by omega)

theorem put_codeX (n : ℕ) (hw : ∀ y : S8x4096x256.Idx, (y 1).val < 512 * n → xq y = allX m c y) :
    ∀ y : S8x4096x256.Idx, (y 1).val < 512 * (n + 1) → putX xq (512 * n) (codeX m c n) y = allX m c y := by
  intro y hy
  rw [putX_apply]
  by_cases h : 512 * n ≤ (y 1).val ∧ (y 1).val < 512 * n + 512
  · rw [dif_pos h]
    unfold allX
    have e : (y 1).val / 512 = n := by omega
    rw [e]
    exact congrArg (codeX m c n) (congrArg (fun a => ix2 a _) (Fin.ext (by show (y 1).val - 512 * n = (y 1).val % 512; omega)))
  · rw [dif_neg h]
    exact hw y (by omega)

/-- The first point. -/
theorem Inv.first {n : ℕ} (h : Inv m c n xq wq dyq ax aw ady inv) (h0 : n = 0) :
    Inv m c (n + 1) xq (VecWindow.put wq ![256 * n, 0] S256x2304.size (codeW m c n)) dyq k0_pay35
      (k0_pay3 (tileW m c n) (k0_pay1 k0_pay36)) k0_pay2 (invs (H1 m c) (H2 m c) (H3 m c)) := by
  subst h0
  exact ⟨fun _ => rfl, fun _ => rfl, fun _ => rfl, fun _ => rfl, put_codeW 0 h.hwq, by intro y h; omega, by intro y h; omega⟩

/-- A later point of the weight phase. -/
theorem Inv.weight {n : ℕ} (h : Inv m c n xq wq dyq ax aw ady inv) (h1 : 1 ≤ n) (h8 : n < 8) :
    Inv m c (n + 1) xq (VecWindow.put wq ![256 * n, 0] S256x2304.size (codeW m c n)) dyq ax (k0_pay3 (tileW m c n) aw) ady inv where
  hinv _ := h.hinv h1
  hax _ := by rw [h.hax h1, show min (n - 8) 8 = 0 by omega, show min (n + 1 - 8) 8 = 0 by omega]
  haw _ := by rw [h.haw h1, show min n 8 = n by omega, show min (n + 1) 8 = n + 1 by omega]; rfl
  hady _ := by rw [h.hady h1, show min (n - 8) 8 = 0 by omega, show min (n + 1 - 8) 8 = 0 by omega]
  hwq := put_codeW n h.hwq
  hxq y hy := by omega
  hdyq y hy := by omega

/-- A point of the token phase. -/
theorem Inv.token {n : ℕ} (h : Inv m c (8 + n) xq wq dyq ax aw ady inv) (h8 : n < 8) :
    Inv m c (8 + n + 1) (putX xq (512 * n) (codeX m c n)) wq (VecWindow.put dyq ![512 * n, 0] S512x2304.size (codeDy m c n))
      (k0_pay39 (tileX m c n) ax) aw (k0_pay40 (tileDy m c n) ady) inv where
  hinv _ := h.hinv (by omega)
  hax _ := by rw [h.hax (by omega), show min (8 + n - 8) 8 = n by omega, show min (8 + n + 1 - 8) 8 = n + 1 by omega]; rfl
  haw _ := by rw [h.haw (by omega), show min (8 + n) 8 = 8 by omega, show min (8 + n + 1) 8 = 8 by omega]
  hady _ := by rw [h.hady (by omega), show min (8 + n - 8) 8 = n by omega, show min (8 + n + 1 - 8) 8 = n + 1 by omega]; rfl
  hwq y hy := h.hwq y (by have : (y 0).val < 2048 := (y 0).isLt; omega)
  hxq y hy := put_codeX n (fun y hy => h.hxq y (by omega)) y (by omega)
  hdyq y hy := put_codeDy n (fun y hy => h.hdyq y (by omega)) y (by omega)

theorem Inv.token_at {n : ℕ} (h : Inv m c n xq wq dyq ax aw ady inv) (h8 : 8 ≤ n) (h16 : n < 16) :
    Inv m c (n + 1) (putX xq (512 * (n - 8)) (codeX m c (n - 8))) wq
      (VecWindow.put dyq ![512 * (n - 8), 0] S512x2304.size (codeDy m c (n - 8)))
      (k0_pay39 (tileX m c (n - 8)) ax) aw (k0_pay40 (tileDy m c (n - 8)) ady) inv := by
  obtain ⟨k, rfl⟩ := Nat.exists_eq_add_of_le h8
  rw [Nat.add_sub_cancel_left]
  exact h.token (by omega)

/-- A point of the weight gradient's phase. -/
theorem Inv.late {n : ℕ} (h : Inv m c n xq wq dyq ax aw ady inv) (h16 : 16 ≤ n) : Inv m c (n + 1) xq wq dyq ax aw ady inv where
  hinv _ := h.hinv (by omega)
  hax _ := by rw [h.hax (by omega), show min (n - 8) 8 = 8 by omega, show min (n + 1 - 8) 8 = 8 by omega]
  haw _ := by rw [h.haw (by omega), show min n 8 = 8 by omega, show min (n + 1) 8 = 8 by omega]
  hady _ := by rw [h.hady (by omega), show min (n - 8) 8 = 8 by omega, show min (n + 1 - 8) 8 = 8 by omega]
  hwq y hy := h.hwq y (by have : (y 0).val < 2048 := (y 0).isLt; omega)
  hxq y hy := h.hxq y (by have : (y 1).val < 4096 := (y 1).isLt; omega)
  hdyq y hy := h.hdyq y (by have : (y 0).val < 4096 := (y 0).isLt; omega)

theorem Inv.wq_eq {n : ℕ} (h : Inv m c n xq wq dyq ax aw ady inv) (hn : 8 ≤ n) : wq = allW m c :=
  funext fun y => h.hwq y (by have : (y 0).val < 2048 := (y 0).isLt; omega)
theorem Inv.xq_eq {n : ℕ} (h : Inv m c n xq wq dyq ax aw ady inv) (hn : 16 ≤ n) : xq = allX m c :=
  funext fun y => h.hxq y (by have : (y 1).val < 4096 := (y 1).isLt; omega)
theorem Inv.dyq_eq {n : ℕ} (h : Inv m c n xq wq dyq ax aw ady inv) (hn : 16 ≤ n) : dyq = allDy m c :=
  funext fun y => h.hdyq y (by have : (y 0).val < 4096 := (y 0).isLt; omega)

theorem invs_cell0 (h1 h2 h3 : Vec F S16 .f32) : cell (invs h1 h2 h3) 0 = xInv h1 := rfl
theorem invs_cell1 (h1 h2 h3 : Vec F S16 .f32) : cell (invs h1 h2 h3) 1 = wInv h2 := rfl
theorem invs_cell2 (h1 h2 h3 : Vec F S16 .f32) : cell (invs h1 h2 h3) 2 = dyInv h3 := rfl

theorem iblk0_const (t : Fin cfg0.N) : iblk m c 0 t = H1 m c := rfl
theorem iblk1_const (t : Fin cfg0.N) : iblk m c 1 t = H2 m c := rfl
theorem iblk2_const (t : Fin cfg0.N) : iblk m c 2 t = H3 m c := rfl

end Cert.KernelIdeal.Hand

end
-- ==== Proof.KI.Dats.lean ====
/-
  The proof data of the kernel's pipeline: what every window's block holds after each grid point, what the scratch buffers hold
  before each, and what the body finds in a result's block that an earlier point stored.
-/
module

public import proofs.«01_k».proof.Proof.KI.State

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-! ## The grid's points -/

theorem coords_val : ∀ t : Fin grid0.N, ((grid0.coords t) 0).val = t.val := by decide +kernel
theorem tokRow_eq : ∀ t : Fin grid0.N, 8 ≤ t.val → t.val < 16 → tokRow (grid0.coords t) = 512 * (t.val - 8) := by decide +kernel
theorem dwPlane_eq : ∀ t : Fin grid0.N, 16 ≤ t.val → dwPlane (grid0.coords t) = t.val - 16 := by decide +kernel

/-- Plane `p` of the stored tokens, as the product reads it. -/
def plane (xq : Vec F S8x4096x256 .fp8e4m3) (p : ℕ) : Vec F S1x4096x256 .fp8e4m3 :=
  fun y => xq (ix3 ⟨min p 7, by omega⟩ (y 1) (y 2))

theorem window_plane_of (xq : Vec F S8x4096x256 .fp8e4m3) (q p : ℕ)
    (inb : ∀ a, (![q, 0, 0] : Fin 3 → ℕ) a + S1x4096x256.size a ≤ S8x4096x256.size a) (h : q = min p 7) :
    VecWindow.window xq ![q, 0, 0] S1x4096x256.size inb = plane xq p := by
  subst h
  funext y
  refine congrArg xq (funext fun a => Fin.ext ?_)
  match a with
  | 0 =>
    show min p 7 + 1 * (y 0).val = min p 7
    have : (y 0).val < 1 := (y 0).isLt
    omega
  | 1 => show 0 + 1 * (y 1).val = (y 1).val; omega
  | 2 => show 0 + 1 * (y 2).val = (y 2).val; omega

theorem window_plane (xq : Vec F S8x4096x256 .fp8e4m3) (t : Fin grid0.N) (h : 16 ≤ t.val) (hc) :
    VecWindow.window xq ![dwPlane (grid0.coords t), 0, 0] S1x4096x256.size (dw_inb (grid0.coords t) hc) = plane xq (t.val - 16) :=
  window_plane_of xq _ _ _ ((dwPlane_eq t h).trans (by have ht : t.val < 24 := t.isLt; omega))

/-! ## The proof data -/

/-- The scratch buffers before point `n`, and the generator. -/
def scr (c : Dev nD) (n : ℕ) : sProp 𝕄 :=
  iprop(∃ xq wq dyq ax aw ady inv, ⌜Inv m c n xq wq dyq ax aw ady inv⌝
    ∗ owns (c : Thread nD τ) (Memref.whole cc0_scratch0) fullShare xq
    ∗ owns (c : Thread nD τ) (Memref.whole cc0_scratch1) fullShare wq
    ∗ owns (c : Thread nD τ) (Memref.whole cc0_scratch2) fullShare dyq
    ∗ owns (c : Thread nD τ) (Memref.whole cc0_scratch3) fullShare ax
    ∗ owns (c : Thread nD τ) (Memref.whole cc0_scratch4) fullShare aw
    ∗ owns (c : Thread nD τ) (Memref.whole cc0_scratch5) fullShare ady
    ∗ owns (c : Thread nD τ) (Memref.whole cc0_scratch6) fullShare inv
    ∗ ∃ r, prngReg c r)

/-- The token tile a point's results come from: the point's own in the token phase, the last one after it. -/
abbrev tok (n : ℕ) : ℕ := min (n - 8) 7

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => k0_pay53 (codeX m c (tok t.val)) (allW m c) (xScale (H1 m c)) (wScale (H2 m c))
    | ⟨7, _⟩ => k0_pay54 (codeDy m c (tok t.val)) (allW m c) (dyScale (H3 m c)) (wScale (H2 m c))
    | ⟨8, _⟩ => k0_pay6 (plane (allX m c) (t.val - 16)) (allDy m c) (xScale (H1 m c)) (dyScale (H3 m c))
    | ⟨9, _⟩ => shift (H1 m c) (k0_pay55 (maxX m c 8))
    | ⟨10, _⟩ => shift (H2 m c) (k0_pay56 (maxW m c 8))
    | ⟨11, _⟩ => shift (H3 m c) (k0_pay58 (k0_pay57 (maxDy m c 8)))
    | ⟨12, _⟩ => codeX m c (tok t.val)
    | ⟨13, _⟩ => fun _ => xScale (H1 m c)
    | ⟨14, _⟩ => k0_pay4 (tileW m c (min t.val 7)) (wInv (H2 m c))
    | ⟨15, _⟩ => fun _ => wScale (H2 m c)
    | ⟨16, _⟩ => codeDy m c (tok t.val)
    | ⟨17, _⟩ => fun _ => dyScale (H3 m c)
    | ⟨_ + 18, h⟩ => absurd h (Nat.not_lt.2 (Nat.le_add_left _ _))
  Φ t := scr m c t.val
  q _ := fullShare
  owed _ := 0

theorem A_eq (c : Dev nD) (w : Fin cfg0.W) : (dats m 0 c).A w = V m c (Pipeline.arrRef spec0 w) := by
  dsimp only [dats]

section After
variable (c : Dev nD) (t : Fin cfg0.N)
theorem after0_0 : (dats m 0 c).after 0 t = iblk m c 0 t := by dsimp only [dats]
theorem after0_1 : (dats m 0 c).after 1 t = iblk m c 1 t := by dsimp only [dats]
theorem after0_2 : (dats m 0 c).after 2 t = iblk m c 2 t := by dsimp only [dats]
theorem after0_3 : (dats m 0 c).after 3 t = iblk m c 3 t := by dsimp only [dats]
theorem after0_4 : (dats m 0 c).after 4 t = iblk m c 4 t := by dsimp only [dats]
theorem after0_5 : (dats m 0 c).after 5 t = iblk m c 5 t := by dsimp only [dats]
theorem after0_6 : (dats m 0 c).after 6 t = k0_pay53 (codeX m c (tok t.val)) (allW m c) (xScale (H1 m c)) (wScale (H2 m c)) := by
  dsimp only [dats]
theorem after0_7 : (dats m 0 c).after 7 t = k0_pay54 (codeDy m c (tok t.val)) (allW m c) (dyScale (H3 m c)) (wScale (H2 m c)) := by
  dsimp only [dats]
theorem after0_8 : (dats m 0 c).after 8 t
    = k0_pay6 (plane (allX m c) (t.val - 16)) (allDy m c) (xScale (H1 m c)) (dyScale (H3 m c)) := by dsimp only [dats]
theorem after0_9 : (dats m 0 c).after 9 t = shift (H1 m c) (k0_pay55 (maxX m c 8)) := by dsimp only [dats]
theorem after0_10 : (dats m 0 c).after 10 t = shift (H2 m c) (k0_pay56 (maxW m c 8)) := by dsimp only [dats]
theorem after0_11 : (dats m 0 c).after 11 t = shift (H3 m c) (k0_pay58 (k0_pay57 (maxDy m c 8))) := by dsimp only [dats]
theorem after0_12 : (dats m 0 c).after 12 t = codeX m c (tok t.val) := by dsimp only [dats]
theorem after0_13 : (dats m 0 c).after 13 t = fun _ => xScale (H1 m c) := by dsimp only [dats]
theorem after0_14 : (dats m 0 c).after 14 t = k0_pay4 (tileW m c (min t.val 7)) (wInv (H2 m c)) := by dsimp only [dats]
theorem after0_15 : (dats m 0 c).after 15 t = fun _ => wScale (H2 m c) := by dsimp only [dats]
theorem after0_16 : (dats m 0 c).after 16 t = codeDy m c (tok t.val) := by dsimp only [dats]
theorem after0_17 : (dats m 0 c).after 17 t = fun _ => dyScale (H3 m c) := by dsimp only [dats]
end After

section Before
variable (c : Dev nD) (t : Fin cfg0.N)
theorem before0_0 (d) : (dats m 0 c).before 0 t d = iblk m c 0 t := before0_0_of m (dats m 0 c) (A_eq m c 0) (after0_0 m c) t d
theorem before0_1 (d) : (dats m 0 c).before 1 t d = iblk m c 1 t := before0_1_of m (dats m 0 c) (A_eq m c 1) (after0_1 m c) t d
theorem before0_2 (d) : (dats m 0 c).before 2 t d = iblk m c 2 t := before0_2_of m (dats m 0 c) (A_eq m c 2) (after0_2 m c) t d
theorem before0_3 (d) : (dats m 0 c).before 3 t d = iblk m c 3 t := before0_3_of m (dats m 0 c) (A_eq m c 3) (after0_3 m c) t d
theorem before0_4 (d) : (dats m 0 c).before 4 t d = iblk m c 4 t := before0_4_of m (dats m 0 c) (A_eq m c 4) (after0_4 m c) t d
theorem before0_5 (d) : (dats m 0 c).before 5 t d = iblk m c 5 t := before0_5_of m (dats m 0 c) (A_eq m c 5) (after0_5 m c) t d

/-- A result's block at points from `T` on, where nothing writes it back before the last point and its contents stay the same:
    the body finds what it is to leave. -/
theorem before_kept (w : Fin cfg0.W) (hw : (cfg0.win w).isOut = true)
    (hclip : ∀ (i : cfg0.grid.Coords) a, (cfg0.win w).clip i a = none) (T : ℕ) (hT : 1 ≤ T)
    (hfresh : ∀ t : Fin cfg0.N, cfg0.fresh w t.val = false → T ≤ t.val)
    (hkept : ∀ t : Fin cfg0.N, T ≤ t.val → cfg0.fresh w t.val = false)
    (hafter : ∀ (t : Fin cfg0.N) (_ : T ≤ t.val), (dats m 0 c).after w t = (dats m 0 c).after w ⟨t.val - 1, by have := t.isLt; omega⟩)
    (h : T ≤ t.val) (d) : (dats m 0 c).before w t d = (dats m 0 c).after w t := by
  rw [(dats m 0 c).before_out_traj w hw hclip (fun t _ _ hf => hafter t (hfresh t hf)) t.val t rfl d, hkept t h,
    if_neg Bool.false_ne_true, hafter t h]

theorem tok_pred (t : Fin cfg0.N) (h : 16 ≤ t.val) : tok t.val = tok (t.val - 1) := by
  show min (t.val - 8) 7 = min (t.val - 1 - 8) 7; omega

theorem fresh_tok {k : Fin 18} (hk : ∀ n ≤ 24, Pipeline.Cfg.fresh cfg0 k n = decide (n ≤ 15 ∨ n = 24)) (t : Fin cfg0.N) :
    cfg0.fresh k t.val = false ↔ 16 ≤ t.val := by
  have ht : t.val < 24 := t.isLt
  rw [hk t.val ht.le, decide_eq_false_iff_not]; omega

theorem before0_6 (h : 16 ≤ t.val) (d) : (dats m 0 c).before 6 t d = (dats m 0 c).after 6 t :=
  before_kept m c t 6 rfl (fun _ _ => rfl) 16 (by omega) (fun t => (fresh_tok fresh6 t).1) (fun t => (fresh_tok fresh6 t).2)
    (fun t h => by rw [after0_6, after0_6, tok_pred t h]) h d
theorem before0_7 (h : 16 ≤ t.val) (d) : (dats m 0 c).before 7 t d = (dats m 0 c).after 7 t :=
  before_kept m c t 7 rfl (fun _ _ => rfl) 16 (by omega) (fun t => (fresh_tok fresh7 t).1) (fun t => (fresh_tok fresh7 t).2)
    (fun t h => by rw [after0_7, after0_7, tok_pred t h]) h d
theorem before0_12 (h : 16 ≤ t.val) (d) : (dats m 0 c).before 12 t d = (dats m 0 c).after 12 t :=
  before_kept m c t 12 rfl (fun _ _ => rfl) 16 (by omega) (fun t => (fresh_tok fresh12 t).1) (fun t => (fresh_tok fresh12 t).2)
    (fun t h => by rw [after0_12, after0_12, tok_pred t h]) h d
theorem before0_16 (h : 16 ≤ t.val) (d) : (dats m 0 c).before 16 t d = (dats m 0 c).after 16 t :=
  before_kept m c t 16 rfl (fun _ _ => rfl) 16 (by omega) (fun t => (fresh_tok fresh16 t).1) (fun t => (fresh_tok fresh16 t).2)
    (fun t h => by rw [after0_16, after0_16, tok_pred t h]) h d
theorem before0_14 (h : 8 ≤ t.val) (d) : (dats m 0 c).before 14 t d = (dats m 0 c).after 14 t := by
  have hf : ∀ t : Fin cfg0.N, cfg0.fresh 14 t.val = false ↔ 8 ≤ t.val := fun t => by
    have ht : t.val < 24 := t.isLt
    rw [fresh14 t.val ht.le, decide_eq_false_iff_not]; omega
  exact before_kept m c t 14 rfl (fun _ _ => rfl) 8 (by omega) (fun t => (hf t).1) (fun t => (hf t).2)
    (fun t h => by rw [after0_14, after0_14]; show _ = k0_pay4 (tileW m c (min (t.val - 1) 7)) _; rw [show min (t.val - 1) 7 = min t.val 7 by omega]) h d

theorem fresh_scale {k : Fin 18} (hk : ∀ n ≤ 24, Pipeline.Cfg.fresh cfg0 k n = decide (n = 0 ∨ n = 24)) (t : Fin cfg0.N) :
    cfg0.fresh k t.val = false ↔ 1 ≤ t.val := by
  have ht : t.val < 24 := t.isLt
  rw [hk t.val ht.le, decide_eq_false_iff_not]; omega

theorem before0_13 (h : 1 ≤ t.val) (d) : (dats m 0 c).before 13 t d = (dats m 0 c).after 13 t :=
  before_kept m c t 13 rfl (fun _ _ => rfl) 1 (by omega) (fun t => (fresh_scale fresh13 t).1) (fun t => (fresh_scale fresh13 t).2)
    (fun t h => by rw [after0_13, after0_13]) h d
theorem before0_15 (h : 1 ≤ t.val) (d) : (dats m 0 c).before 15 t d = (dats m 0 c).after 15 t :=
  before_kept m c t 15 rfl (fun _ _ => rfl) 1 (by omega) (fun t => (fresh_scale fresh15 t).1) (fun t => (fresh_scale fresh15 t).2)
    (fun t h => by rw [after0_15, after0_15]) h d
theorem before0_17 (h : 1 ≤ t.val) (d) : (dats m 0 c).before 17 t d = (dats m 0 c).after 17 t :=
  before_kept m c t 17 rfl (fun _ _ => rfl) 1 (by omega) (fun t => (fresh_scale fresh17 t).1) (fun t => (fresh_scale fresh17 t).2)
    (fun t h => by rw [after0_17, after0_17]) h d
end Before

/-! ## What a point leaves in a window's block -/

section Leaves
variable {m} {c : Dev nD} {t : Fin cfg0.N}

/-- A window a point does not touch. -/
theorem leaves_keep (w : Fin cfg0.W) (hi : cfg0.idle w (cfg0.grid.coords t) = true) (hf : (cfg0.win w).flush t = false) (d) :
    owns (c : Thread nD τ) ((cfg0.win w).stage (cfg0.slots t w)) fullShare ((dats m 0 c).before w t d)
      ⊢ ((dats m 0 c).leavesExact w t : sProp 𝕄) := by
  rw [(dats m 0 c).leavesExact_idle w t hi hf]
  iintro H; iexists d; iexact H

/-- A window a point stores. -/
theorem leaves_store (w : Fin cfg0.W) (hi : cfg0.idle w (cfg0.grid.coords t) = false) {X} (hX : (dats m 0 c).after w t = X) :
    owns (c : Thread nD τ) ((cfg0.win w).stage (cfg0.slots t w)) fullShare X ⊢ ((dats m 0 c).leavesExact w t : sProp 𝕄) := by
  subst hX
  unfold Dat.leavesExact; rw [hi]

/-- A window that holds what the point is to leave. -/
theorem leaves_same (w : Fin cfg0.W) (hb : ∀ d, (dats m 0 c).before w t d = (dats m 0 c).after w t)
    {X} (hX : (dats m 0 c).after w t = X) :
    owns (c : Thread nD τ) ((cfg0.win w).stage (cfg0.slots t w)) fullShare X ⊢ ((dats m 0 c).leavesExact w t : sProp 𝕄) := by
  subst hX
  unfold Dat.leavesExact
  cases cfg0.idle w (cfg0.grid.coords t) with
  | false => exact .rfl
  | true =>
    cases (cfg0.win w).flush t with
    | true => exact .rfl
    | false =>
      iintro H
      iexists (dats m 0 c).after w t
      rw [hb]
      iexact H
end Leaves

end Cert.KernelIdeal.Hand

end
-- ==== Proof.KI.RunFirst.lean ====
/-
  The first point of the grid.
-/
module

public import proofs.«01_k».proof.Proof.KI.Spec
public import proofs.«01_k».proof.Proof.Reads
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The first point: the three scales and their inverses from the histories, the running maxima at zero, then the weight
    phase on the first tile. -/
theorem run_first (c : Dev nD) (i : grid0.Coords)
    (arg1 : Memref sig .tc .smem S16 .f32) (harg1 : arg1.IsWhole)
    (arg2 : Memref sig .tc .smem S16 .f32) (harg2 : arg2.IsWhole)
    (arg3 : Memref sig .tc .smem S16 .f32) (harg3 : arg3.IsWhole)
    (arg4 : Memref sig .tc .vmem S512x2048 .bf16) (harg4 : arg4.IsWhole)
    (arg5 : Memref sig .tc .vmem S256x2304 .f32) (harg5 : arg5.IsWhole)
    (arg6 : Memref sig .tc .vmem S512x2304 .bf16) (harg6 : arg6.IsWhole)
    (arg7 : Memref sig .tc .vmem S64x8x2304 .bf16) (harg7 : arg7.IsWhole)
    (arg8 : Memref sig .tc .vmem S64x8x2048 .bf16) (harg8 : arg8.IsWhole)
    (arg9 : Memref sig .tc .vmem S256x2304 .f32) (harg9 : arg9.IsWhole)
    (arg10 : Memref sig .tc .smem S16 .f32) (harg10 : arg10.IsWhole)
    (arg11 : Memref sig .tc .smem S16 .f32) (harg11 : arg11.IsWhole)
    (arg12 : Memref sig .tc .smem S16 .f32) (harg12 : arg12.IsWhole)
    (arg13 : Memref sig .tc .vmem S512x2048 .fp8e4m3) (harg13 : arg13.IsWhole)
    (arg14 : Memref sig .tc .smem S1 .f32) (harg14 : arg14.IsWhole)
    (arg15 : Memref sig .tc .vmem S256x2304 .fp8e4m3) (harg15 : arg15.IsWhole)
    (arg16 : Memref sig .tc .smem S1 .f32) (harg16 : arg16.IsWhole)
    (arg17 : Memref sig .tc .vmem S512x2304 .fp8e5m2) (harg17 : arg17.IsWhole)
    (arg18 : Memref sig .tc .smem S1 .f32) (harg18 : arg18.IsWhole)
    (arg19 : Memref sig .tc .vmem S8x4096x256 .fp8e4m3) (harg19 : arg19.IsWhole)
    (arg20 : Memref sig .tc .vmem S2048x2304 .fp8e4m3) (harg20 : arg20.IsWhole)
    (arg21 : Memref sig .tc .vmem S4096x2304 .fp8e5m2) (harg21 : arg21.IsWhole)
    (arg22 : Memref sig .tc .vmem S16x2048 .bf16) (harg22 : arg22.IsWhole)
    (arg23 : Memref sig .tc .vmem S8x2304 .f32) (harg23 : arg23.IsWhole)
    (arg24 : Memref sig .tc .vmem S16x2304 .bf16) (harg24 : arg24.IsWhole)
    (arg25 : Memref sig .tc .smem S3 .f32) (harg25 : arg25.IsWhole)
    (hc1 : k0_cond1 i = 1#1) (hc2 : k0_cond2 i = 1#1) (hc3 : ¬ k0_cond3 i = 1#1) (hc4 : ¬ k0_cond4 i = 1#1) (hc5 : ¬ k0_cond5 i = 1#1)
    (h1 : Vec F S16 .f32)
    (h2 : Vec F S16 .f32)
    (h3 : Vec F S16 .f32)
    (x5 : Vec F S256x2304 .f32)
    (wq : Vec F S2048x2304 .fp8e4m3)
    (E : Set ℕ) (K : PUnit → sProp 𝕄) :
    iprop(owns (c : Thread nD τ) arg1 fullShare h1
            ∗ owns (c : Thread nD τ) arg2 fullShare h2
            ∗ owns (c : Thread nD τ) arg3 fullShare h3
            ∗ owns (c : Thread nD τ) arg5 fullShare x5
            ∗ owns (c : Thread nD τ) arg20 fullShare wq
            ∗ (∃ d, owns (c : Thread nD τ) arg14 fullShare d)
            ∗ (∃ d, owns (c : Thread nD τ) arg15 fullShare d)
            ∗ (∃ d, owns (c : Thread nD τ) arg16 fullShare d)
            ∗ (∃ d, owns (c : Thread nD τ) arg18 fullShare d)
            ∗ (∃ d, owns (c : Thread nD τ) arg22 fullShare d)
            ∗ (∃ d, owns (c : Thread nD τ) arg23 fullShare d)
            ∗ (∃ d, owns (c : Thread nD τ) arg24 fullShare d)
            ∗ (∃ d, owns (c : Thread nD τ) arg25 fullShare d)
            ∗ (iprop(owns (c : Thread nD τ) arg1 fullShare h1
            ∗ owns (c : Thread nD τ) arg2 fullShare h2
            ∗ owns (c : Thread nD τ) arg3 fullShare h3
            ∗ owns (c : Thread nD τ) arg5 fullShare x5
            ∗ owns (c : Thread nD τ) arg20 fullShare (VecWindow.put wq ![256 * (i 0).val, 0] S256x2304.size (k0_pay5 x5 (wInv h2)))
            ∗ owns (c : Thread nD τ) arg14 fullShare (fun _ => xScale h1)
            ∗ owns (c : Thread nD τ) arg15 fullShare (k0_pay4 x5 (wInv h2))
            ∗ owns (c : Thread nD τ) arg16 fullShare (fun _ => wScale h2)
            ∗ owns (c : Thread nD τ) arg18 fullShare (fun _ => dyScale h3)
            ∗ owns (c : Thread nD τ) arg22 fullShare k0_pay35
            ∗ owns (c : Thread nD τ) arg23 fullShare (k0_pay3 x5 (k0_pay1 k0_pay36))
            ∗ owns (c : Thread nD τ) arg24 fullShare k0_pay2
            ∗ owns (c : Thread nD τ) arg25 fullShare (invs h1 h2 h3)) -∗ K ⟨⟩))
      ⊢ wp frame (wpE (defs₀ (F := F)) Variants.none c none) E (cc0_fp8_linear_fwd_bwd i
          arg1 harg1 arg2 harg2 arg3 harg3 arg4 harg4 arg5 harg5 arg6 harg6 arg7 harg7 arg8 harg8 arg9 harg9
          arg10 harg10 arg11 harg11 arg12 harg12 arg13 harg13 arg14 harg14 arg15 harg15 arg16 harg16 arg17 harg17
          arg18 harg18 arg19 harg19 arg20 harg20 arg21 harg21 arg22 harg22 arg23 harg23 arg24 harg24 arg25 harg25) K := by
  simp only [cc0_fp8_linear_fwd_bwd_eq_skeleton]; unfold cc0_fp8_linear_fwd_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold owns
  iintro ⟨⟨%f1, %hf1, H1⟩, ⟨%f2, %hf2, H2⟩, ⟨%f3, %hf3, H3⟩, ⟨%f5, %hf5, H5⟩, ⟨%f20, %hf20, H20⟩, ⟨%d14, %f14, -, H14⟩, ⟨%d15, %f15, -, H15⟩, ⟨%d16, %f16, -, H16⟩, ⟨%d18, %f18, -, H18⟩, ⟨%d22, %f22, -, H22⟩, ⟨%d23, %f23, -, H23⟩, ⟨%d24, %f24, -, H24⟩, ⟨%d25, %f25, -, H25⟩, Hk⟩
  obtain rfl := harg1.eq_unread hf1; obtain rfl := harg2.eq_unread hf2; obtain rfl := harg3.eq_unread hf3; obtain rfl := harg5.eq_unread hf5; obtain rfl := harg20.eq_unread hf20
  sl_exec
  sl_step
  iapply Hk
  isplitl [H1]
  · iexists _; isplitr; rotate_left
    · iexact H1
    ipureintro
    exact harg1.read_unread _
  isplitl [H2]
  · iexists _; isplitr; rotate_left
    · iexact H2
    ipureintro
    exact harg2.read_unread _
  isplitl [H3]
  · iexists _; isplitr; rotate_left
    · iexact H3
    ipureintro
    exact harg3.read_unread _
  isplitl [H5]
  · iexists _; isplitr; rotate_left
    · iexact H5
    ipureintro
    exact harg5.read_unread _
  isplitl [H20]
  · iexists _; isplitr; rotate_left
    · iexact H20
    ipureintro
    rw [View.read_writes_cons_put _ _ _ _ _ (k0_off1_eq i), View.writes_nil, harg20.read_unread]; repeat rw [Memref.IsWhole.readAt_full_unread]
    have e40 : run_first.sl.r_40 c arg2 harg2 h2 = of16 k0_pay18 h2 := of16_eq k0_pay18
        (harg2.readAt_cell h2 0 _ _ _) (harg2.readAt_cell h2 1 _ _ _) (harg2.readAt_cell h2 2 _ _ _)
        (harg2.readAt_cell h2 3 _ _ _) (harg2.readAt_cell h2 4 _ _ _) (harg2.readAt_cell h2 5 _ _ _)
        (harg2.readAt_cell h2 6 _ _ _) (harg2.readAt_cell h2 7 _ _ _) (harg2.readAt_cell h2 8 _ _ _)
        (harg2.readAt_cell h2 9 _ _ _) (harg2.readAt_cell h2 10 _ _ _) (harg2.readAt_cell h2 11 _ _ _)
        (harg2.readAt_cell h2 12 _ _ _) (harg2.readAt_cell h2 13 _ _ _) (harg2.readAt_cell h2 14 _ _ _)
        (harg2.readAt_cell h2 15 _ _ _)
    have e41 : run_first.sl.r_41 c arg2 harg2 h2 = of16 k0_pay19 h2 := of16_eq k0_pay19
        (harg2.readAt_cell h2 0 _ _ _) (harg2.readAt_cell h2 1 _ _ _) (harg2.readAt_cell h2 2 _ _ _)
        (harg2.readAt_cell h2 3 _ _ _) (harg2.readAt_cell h2 4 _ _ _) (harg2.readAt_cell h2 5 _ _ _)
        (harg2.readAt_cell h2 6 _ _ _) (harg2.readAt_cell h2 7 _ _ _) (harg2.readAt_cell h2 8 _ _ _)
        (harg2.readAt_cell h2 9 _ _ _) (harg2.readAt_cell h2 10 _ _ _) (harg2.readAt_cell h2 11 _ _ _)
        (harg2.readAt_cell h2 12 _ _ _) (harg2.readAt_cell h2 13 _ _ _) (harg2.readAt_cell h2 14 _ _ _)
        (harg2.readAt_cell h2 15 _ _ _)
    have e42 : run_first.sl.r_42 c arg2 harg2 h2 = of16 k0_pay20 h2 := of16_eq k0_pay20
        (harg2.readAt_cell h2 0 _ _ _) (harg2.readAt_cell h2 1 _ _ _) (harg2.readAt_cell h2 2 _ _ _)
        (harg2.readAt_cell h2 3 _ _ _) (harg2.readAt_cell h2 4 _ _ _) (harg2.readAt_cell h2 5 _ _ _)
        (harg2.readAt_cell h2 6 _ _ _) (harg2.readAt_cell h2 7 _ _ _) (harg2.readAt_cell h2 8 _ _ _)
        (harg2.readAt_cell h2 9 _ _ _) (harg2.readAt_cell h2 10 _ _ _) (harg2.readAt_cell h2 11 _ _ _)
        (harg2.readAt_cell h2 12 _ _ _) (harg2.readAt_cell h2 13 _ _ _) (harg2.readAt_cell h2 14 _ _ _)
        (harg2.readAt_cell h2 15 _ _ _)
    have e72 : run_first.sl.r_72 c arg2 harg2 h2 = wInv h2 := by
      unfold wInv; rw [← e40, ← e41, ← e42]; rfl
    rw [e72]
  isplitl [H14]
  · iexists _; isplitr; rotate_left
    · iexact H14
    ipureintro
    rw [View.read_writes_full]
    have e16 : run_first.sl.r_16 c arg1 harg1 h1 = of16 k0_pay7 h1 := of16_eq k0_pay7
        (harg1.readAt_cell h1 0 _ _ _) (harg1.readAt_cell h1 1 _ _ _) (harg1.readAt_cell h1 2 _ _ _)
        (harg1.readAt_cell h1 3 _ _ _) (harg1.readAt_cell h1 4 _ _ _) (harg1.readAt_cell h1 5 _ _ _)
        (harg1.readAt_cell h1 6 _ _ _) (harg1.readAt_cell h1 7 _ _ _) (harg1.readAt_cell h1 8 _ _ _)
        (harg1.readAt_cell h1 9 _ _ _) (harg1.readAt_cell h1 10 _ _ _) (harg1.readAt_cell h1 11 _ _ _)
        (harg1.readAt_cell h1 12 _ _ _) (harg1.readAt_cell h1 13 _ _ _) (harg1.readAt_cell h1 14 _ _ _)
        (harg1.readAt_cell h1 15 _ _ _)
    have e17 : run_first.sl.r_17 c arg1 harg1 h1 = of16 k0_pay8 h1 := of16_eq k0_pay8
        (harg1.readAt_cell h1 0 _ _ _) (harg1.readAt_cell h1 1 _ _ _) (harg1.readAt_cell h1 2 _ _ _)
        (harg1.readAt_cell h1 3 _ _ _) (harg1.readAt_cell h1 4 _ _ _) (harg1.readAt_cell h1 5 _ _ _)
        (harg1.readAt_cell h1 6 _ _ _) (harg1.readAt_cell h1 7 _ _ _) (harg1.readAt_cell h1 8 _ _ _)
        (harg1.readAt_cell h1 9 _ _ _) (harg1.readAt_cell h1 10 _ _ _) (harg1.readAt_cell h1 11 _ _ _)
        (harg1.readAt_cell h1 12 _ _ _) (harg1.readAt_cell h1 13 _ _ _) (harg1.readAt_cell h1 14 _ _ _)
        (harg1.readAt_cell h1 15 _ _ _)
    unfold xScale xSearch; rw [← e16, ← e17]; rfl
  isplitl [H15]
  · iexists _; isplitr; rotate_left
    · iexact H15
    ipureintro
    rw [View.read_writes_full]; repeat rw [Memref.IsWhole.readAt_full_unread]
    have e40 : run_first.sl.r_40 c arg2 harg2 h2 = of16 k0_pay18 h2 := of16_eq k0_pay18
        (harg2.readAt_cell h2 0 _ _ _) (harg2.readAt_cell h2 1 _ _ _) (harg2.readAt_cell h2 2 _ _ _)
        (harg2.readAt_cell h2 3 _ _ _) (harg2.readAt_cell h2 4 _ _ _) (harg2.readAt_cell h2 5 _ _ _)
        (harg2.readAt_cell h2 6 _ _ _) (harg2.readAt_cell h2 7 _ _ _) (harg2.readAt_cell h2 8 _ _ _)
        (harg2.readAt_cell h2 9 _ _ _) (harg2.readAt_cell h2 10 _ _ _) (harg2.readAt_cell h2 11 _ _ _)
        (harg2.readAt_cell h2 12 _ _ _) (harg2.readAt_cell h2 13 _ _ _) (harg2.readAt_cell h2 14 _ _ _)
        (harg2.readAt_cell h2 15 _ _ _)
    have e41 : run_first.sl.r_41 c arg2 harg2 h2 = of16 k0_pay19 h2 := of16_eq k0_pay19
        (harg2.readAt_cell h2 0 _ _ _) (harg2.readAt_cell h2 1 _ _ _) (harg2.readAt_cell h2 2 _ _ _)
        (harg2.readAt_cell h2 3 _ _ _) (harg2.readAt_cell h2 4 _ _ _) (harg2.readAt_cell h2 5 _ _ _)
        (harg2.readAt_cell h2 6 _ _ _) (harg2.readAt_cell h2 7 _ _ _) (harg2.readAt_cell h2 8 _ _ _)
        (harg2.readAt_cell h2 9 _ _ _) (harg2.readAt_cell h2 10 _ _ _) (harg2.readAt_cell h2 11 _ _ _)
        (harg2.readAt_cell h2 12 _ _ _) (harg2.readAt_cell h2 13 _ _ _) (harg2.readAt_cell h2 14 _ _ _)
        (harg2.readAt_cell h2 15 _ _ _)
    have e42 : run_first.sl.r_42 c arg2 harg2 h2 = of16 k0_pay20 h2 := of16_eq k0_pay20
        (harg2.readAt_cell h2 0 _ _ _) (harg2.readAt_cell h2 1 _ _ _) (harg2.readAt_cell h2 2 _ _ _)
        (harg2.readAt_cell h2 3 _ _ _) (harg2.readAt_cell h2 4 _ _ _) (harg2.readAt_cell h2 5 _ _ _)
        (harg2.readAt_cell h2 6 _ _ _) (harg2.readAt_cell h2 7 _ _ _) (harg2.readAt_cell h2 8 _ _ _)
        (harg2.readAt_cell h2 9 _ _ _) (harg2.readAt_cell h2 10 _ _ _) (harg2.readAt_cell h2 11 _ _ _)
        (harg2.readAt_cell h2 12 _ _ _) (harg2.readAt_cell h2 13 _ _ _) (harg2.readAt_cell h2 14 _ _ _)
        (harg2.readAt_cell h2 15 _ _ _)
    have e72 : run_first.sl.r_72 c arg2 harg2 h2 = wInv h2 := by
      unfold wInv; rw [← e40, ← e41, ← e42]; rfl
    rw [e72]
  isplitl [H16]
  · iexists _; isplitr; rotate_left
    · iexact H16
    ipureintro
    rw [View.read_writes_full]
    have e40 : run_first.sl.r_40 c arg2 harg2 h2 = of16 k0_pay18 h2 := of16_eq k0_pay18
        (harg2.readAt_cell h2 0 _ _ _) (harg2.readAt_cell h2 1 _ _ _) (harg2.readAt_cell h2 2 _ _ _)
        (harg2.readAt_cell h2 3 _ _ _) (harg2.readAt_cell h2 4 _ _ _) (harg2.readAt_cell h2 5 _ _ _)
        (harg2.readAt_cell h2 6 _ _ _) (harg2.readAt_cell h2 7 _ _ _) (harg2.readAt_cell h2 8 _ _ _)
        (harg2.readAt_cell h2 9 _ _ _) (harg2.readAt_cell h2 10 _ _ _) (harg2.readAt_cell h2 11 _ _ _)
        (harg2.readAt_cell h2 12 _ _ _) (harg2.readAt_cell h2 13 _ _ _) (harg2.readAt_cell h2 14 _ _ _)
        (harg2.readAt_cell h2 15 _ _ _)
    have e41 : run_first.sl.r_41 c arg2 harg2 h2 = of16 k0_pay19 h2 := of16_eq k0_pay19
        (harg2.readAt_cell h2 0 _ _ _) (harg2.readAt_cell h2 1 _ _ _) (harg2.readAt_cell h2 2 _ _ _)
        (harg2.readAt_cell h2 3 _ _ _) (harg2.readAt_cell h2 4 _ _ _) (harg2.readAt_cell h2 5 _ _ _)
        (harg2.readAt_cell h2 6 _ _ _) (harg2.readAt_cell h2 7 _ _ _) (harg2.readAt_cell h2 8 _ _ _)
        (harg2.readAt_cell h2 9 _ _ _) (harg2.readAt_cell h2 10 _ _ _) (harg2.readAt_cell h2 11 _ _ _)
        (harg2.readAt_cell h2 12 _ _ _) (harg2.readAt_cell h2 13 _ _ _) (harg2.readAt_cell h2 14 _ _ _)
        (harg2.readAt_cell h2 15 _ _ _)
    have e42 : run_first.sl.r_42 c arg2 harg2 h2 = of16 k0_pay20 h2 := of16_eq k0_pay20
        (harg2.readAt_cell h2 0 _ _ _) (harg2.readAt_cell h2 1 _ _ _) (harg2.readAt_cell h2 2 _ _ _)
        (harg2.readAt_cell h2 3 _ _ _) (harg2.readAt_cell h2 4 _ _ _) (harg2.readAt_cell h2 5 _ _ _)
        (harg2.readAt_cell h2 6 _ _ _) (harg2.readAt_cell h2 7 _ _ _) (harg2.readAt_cell h2 8 _ _ _)
        (harg2.readAt_cell h2 9 _ _ _) (harg2.readAt_cell h2 10 _ _ _) (harg2.readAt_cell h2 11 _ _ _)
        (harg2.readAt_cell h2 12 _ _ _) (harg2.readAt_cell h2 13 _ _ _) (harg2.readAt_cell h2 14 _ _ _)
        (harg2.readAt_cell h2 15 _ _ _)
    unfold wScale; rw [← e40, ← e41, ← e42]; rfl
  isplitl [H18]
  · iexists _; isplitr; rotate_left
    · iexact H18
    ipureintro
    rw [View.read_writes_full]
    have e64 : run_first.sl.r_64 c arg3 harg3 h3 = of16 k0_pay26 h3 := of16_eq k0_pay26
        (harg3.readAt_cell h3 0 _ _ _) (harg3.readAt_cell h3 1 _ _ _) (harg3.readAt_cell h3 2 _ _ _)
        (harg3.readAt_cell h3 3 _ _ _) (harg3.readAt_cell h3 4 _ _ _) (harg3.readAt_cell h3 5 _ _ _)
        (harg3.readAt_cell h3 6 _ _ _) (harg3.readAt_cell h3 7 _ _ _) (harg3.readAt_cell h3 8 _ _ _)
        (harg3.readAt_cell h3 9 _ _ _) (harg3.readAt_cell h3 10 _ _ _) (harg3.readAt_cell h3 11 _ _ _)
        (harg3.readAt_cell h3 12 _ _ _) (harg3.readAt_cell h3 13 _ _ _) (harg3.readAt_cell h3 14 _ _ _)
        (harg3.readAt_cell h3 15 _ _ _)
    unfold dyScale dySearch dyStep; rw [← e64]; rfl
  isplitl [H22]
  · iexists _; isplitr; rotate_left
    · iexact H22
    ipureintro
    rw [View.read_writes_full]
  isplitl [H23]
  · iexists _; isplitr; rotate_left
    · iexact H23
    ipureintro
    rw [View.read_writes_full]; repeat rw [Memref.IsWhole.readAt_full_unread]
    unfold run_first.sl.v21 run_first.sl.H23_1; rw [View.readCov_full]
  isplitl [H24]
  · iexists _; isplitr; rotate_left
    · iexact H24
    ipureintro
    rw [View.read_writes_full]
  iexists _; isplitr; rotate_left
  · iexact H25
  ipureintro
  have e16 : run_first.sl.r_16 c arg1 harg1 h1 = of16 k0_pay7 h1 := of16_eq k0_pay7
      (harg1.readAt_cell h1 0 _ _ _) (harg1.readAt_cell h1 1 _ _ _) (harg1.readAt_cell h1 2 _ _ _)
      (harg1.readAt_cell h1 3 _ _ _) (harg1.readAt_cell h1 4 _ _ _) (harg1.readAt_cell h1 5 _ _ _)
      (harg1.readAt_cell h1 6 _ _ _) (harg1.readAt_cell h1 7 _ _ _) (harg1.readAt_cell h1 8 _ _ _)
      (harg1.readAt_cell h1 9 _ _ _) (harg1.readAt_cell h1 10 _ _ _) (harg1.readAt_cell h1 11 _ _ _)
      (harg1.readAt_cell h1 12 _ _ _) (harg1.readAt_cell h1 13 _ _ _) (harg1.readAt_cell h1 14 _ _ _)
      (harg1.readAt_cell h1 15 _ _ _)
  have e17 : run_first.sl.r_17 c arg1 harg1 h1 = of16 k0_pay8 h1 := of16_eq k0_pay8
      (harg1.readAt_cell h1 0 _ _ _) (harg1.readAt_cell h1 1 _ _ _) (harg1.readAt_cell h1 2 _ _ _)
      (harg1.readAt_cell h1 3 _ _ _) (harg1.readAt_cell h1 4 _ _ _) (harg1.readAt_cell h1 5 _ _ _)
      (harg1.readAt_cell h1 6 _ _ _) (harg1.readAt_cell h1 7 _ _ _) (harg1.readAt_cell h1 8 _ _ _)
      (harg1.readAt_cell h1 9 _ _ _) (harg1.readAt_cell h1 10 _ _ _) (harg1.readAt_cell h1 11 _ _ _)
      (harg1.readAt_cell h1 12 _ _ _) (harg1.readAt_cell h1 13 _ _ _) (harg1.readAt_cell h1 14 _ _ _)
      (harg1.readAt_cell h1 15 _ _ _)
  have e40 : run_first.sl.r_40 c arg2 harg2 h2 = of16 k0_pay18 h2 := of16_eq k0_pay18
      (harg2.readAt_cell h2 0 _ _ _) (harg2.readAt_cell h2 1 _ _ _) (harg2.readAt_cell h2 2 _ _ _)
      (harg2.readAt_cell h2 3 _ _ _) (harg2.readAt_cell h2 4 _ _ _) (harg2.readAt_cell h2 5 _ _ _)
      (harg2.readAt_cell h2 6 _ _ _) (harg2.readAt_cell h2 7 _ _ _) (harg2.readAt_cell h2 8 _ _ _)
      (harg2.readAt_cell h2 9 _ _ _) (harg2.readAt_cell h2 10 _ _ _) (harg2.readAt_cell h2 11 _ _ _)
      (harg2.readAt_cell h2 12 _ _ _) (harg2.readAt_cell h2 13 _ _ _) (harg2.readAt_cell h2 14 _ _ _)
      (harg2.readAt_cell h2 15 _ _ _)
  have e41 : run_first.sl.r_41 c arg2 harg2 h2 = of16 k0_pay19 h2 := of16_eq k0_pay19
      (harg2.readAt_cell h2 0 _ _ _) (harg2.readAt_cell h2 1 _ _ _) (harg2.readAt_cell h2 2 _ _ _)
      (harg2.readAt_cell h2 3 _ _ _) (harg2.readAt_cell h2 4 _ _ _) (harg2.readAt_cell h2 5 _ _ _)
      (harg2.readAt_cell h2 6 _ _ _) (harg2.readAt_cell h2 7 _ _ _) (harg2.readAt_cell h2 8 _ _ _)
      (harg2.readAt_cell h2 9 _ _ _) (harg2.readAt_cell h2 10 _ _ _) (harg2.readAt_cell h2 11 _ _ _)
      (harg2.readAt_cell h2 12 _ _ _) (harg2.readAt_cell h2 13 _ _ _) (harg2.readAt_cell h2 14 _ _ _)
      (harg2.readAt_cell h2 15 _ _ _)
  have e42 : run_first.sl.r_42 c arg2 harg2 h2 = of16 k0_pay20 h2 := of16_eq k0_pay20
      (harg2.readAt_cell h2 0 _ _ _) (harg2.readAt_cell h2 1 _ _ _) (harg2.readAt_cell h2 2 _ _ _)
      (harg2.readAt_cell h2 3 _ _ _) (harg2.readAt_cell h2 4 _ _ _) (harg2.readAt_cell h2 5 _ _ _)
      (harg2.readAt_cell h2 6 _ _ _) (harg2.readAt_cell h2 7 _ _ _) (harg2.readAt_cell h2 8 _ _ _)
      (harg2.readAt_cell h2 9 _ _ _) (harg2.readAt_cell h2 10 _ _ _) (harg2.readAt_cell h2 11 _ _ _)
      (harg2.readAt_cell h2 12 _ _ _) (harg2.readAt_cell h2 13 _ _ _) (harg2.readAt_cell h2 14 _ _ _)
      (harg2.readAt_cell h2 15 _ _ _)
  have e64 : run_first.sl.r_64 c arg3 harg3 h3 = of16 k0_pay26 h3 := of16_eq k0_pay26
      (harg3.readAt_cell h3 0 _ _ _) (harg3.readAt_cell h3 1 _ _ _) (harg3.readAt_cell h3 2 _ _ _)
      (harg3.readAt_cell h3 3 _ _ _) (harg3.readAt_cell h3 4 _ _ _) (harg3.readAt_cell h3 5 _ _ _)
      (harg3.readAt_cell h3 6 _ _ _) (harg3.readAt_cell h3 7 _ _ _) (harg3.readAt_cell h3 8 _ _ _)
      (harg3.readAt_cell h3 9 _ _ _) (harg3.readAt_cell h3 10 _ _ _) (harg3.readAt_cell h3 11 _ _ _)
      (harg3.readAt_cell h3 12 _ _ _) (harg3.readAt_cell h3 13 _ _ _) (harg3.readAt_cell h3 14 _ _ _)
      (harg3.readAt_cell h3 15 _ _ _)
  refine View.read_words3 _ _ (invs h1 h2 h3) _ _ _ ?_ ?_ ?_
  · show _ = xInv h1
    unfold xInv xSearch; rw [← e16, ← e17]; rfl
  · show _ = wInv h2
    unfold wInv; rw [← e40, ← e41, ← e42]; rfl
  · show _ = dyInv h3
    unfold dyInv dySearch dyStep; rw [← e64]; rfl

end Cert.KernelIdeal.Hand

end
-- ==== Proof.KI.RunWeight.lean ====
/-
  The weight phase of the kernel body.
-/
module

public import proofs.«01_k».proof.Proof.KI.Spec
public import proofs.«01_k».proof.Proof.Reads
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The weight phase away from the first point: the maxima of the weights take the tile's in, and the tile's codes go to
    the result block and to their rows of the stored codes. -/
theorem run_weight (c : Dev nD) (i : grid0.Coords)
    (arg1 : Memref sig .tc .smem S16 .f32) (harg1 : arg1.IsWhole)
    (arg2 : Memref sig .tc .smem S16 .f32) (harg2 : arg2.IsWhole)
    (arg3 : Memref sig .tc .smem S16 .f32) (harg3 : arg3.IsWhole)
    (arg4 : Memref sig .tc .vmem S512x2048 .bf16) (harg4 : arg4.IsWhole)
    (arg5 : Memref sig .tc .vmem S256x2304 .f32) (harg5 : arg5.IsWhole)
    (arg6 : Memref sig .tc .vmem S512x2304 .bf16) (harg6 : arg6.IsWhole)
    (arg7 : Memref sig .tc .vmem S64x8x2304 .bf16) (harg7 : arg7.IsWhole)
    (arg8 : Memref sig .tc .vmem S64x8x2048 .bf16) (harg8 : arg8.IsWhole)
    (arg9 : Memref sig .tc .vmem S256x2304 .f32) (harg9 : arg9.IsWhole)
    (arg10 : Memref sig .tc .smem S16 .f32) (harg10 : arg10.IsWhole)
    (arg11 : Memref sig .tc .smem S16 .f32) (harg11 : arg11.IsWhole)
    (arg12 : Memref sig .tc .smem S16 .f32) (harg12 : arg12.IsWhole)
    (arg13 : Memref sig .tc .vmem S512x2048 .fp8e4m3) (harg13 : arg13.IsWhole)
    (arg14 : Memref sig .tc .smem S1 .f32) (harg14 : arg14.IsWhole)
    (arg15 : Memref sig .tc .vmem S256x2304 .fp8e4m3) (harg15 : arg15.IsWhole)
    (arg16 : Memref sig .tc .smem S1 .f32) (harg16 : arg16.IsWhole)
    (arg17 : Memref sig .tc .vmem S512x2304 .fp8e5m2) (harg17 : arg17.IsWhole)
    (arg18 : Memref sig .tc .smem S1 .f32) (harg18 : arg18.IsWhole)
    (arg19 : Memref sig .tc .vmem S8x4096x256 .fp8e4m3) (harg19 : arg19.IsWhole)
    (arg20 : Memref sig .tc .vmem S2048x2304 .fp8e4m3) (harg20 : arg20.IsWhole)
    (arg21 : Memref sig .tc .vmem S4096x2304 .fp8e5m2) (harg21 : arg21.IsWhole)
    (arg22 : Memref sig .tc .vmem S16x2048 .bf16) (harg22 : arg22.IsWhole)
    (arg23 : Memref sig .tc .vmem S8x2304 .f32) (harg23 : arg23.IsWhole)
    (arg24 : Memref sig .tc .vmem S16x2304 .bf16) (harg24 : arg24.IsWhole)
    (arg25 : Memref sig .tc .smem S3 .f32) (harg25 : arg25.IsWhole)
    (hc1 : ¬ k0_cond1 i = 1#1) (hc2 : k0_cond2 i = 1#1) (hc3 : ¬ k0_cond3 i = 1#1) (hc4 : ¬ k0_cond4 i = 1#1) (hc5 : ¬ k0_cond5 i = 1#1)
    (x5 : Vec F S256x2304 .f32)
    (wq : Vec F S2048x2304 .fp8e4m3)
    (aw : Vec F S8x2304 .f32)
    (inv : Vec F S3 .f32)
    (E : Set ℕ) (K : PUnit → sProp 𝕄) :
    iprop(owns (c : Thread nD τ) arg5 fullShare x5
            ∗ owns (c : Thread nD τ) arg20 fullShare wq
            ∗ owns (c : Thread nD τ) arg23 fullShare aw
            ∗ owns (c : Thread nD τ) arg25 fullShare inv
            ∗ (∃ d, owns (c : Thread nD τ) arg15 fullShare d)
            ∗ (iprop(owns (c : Thread nD τ) arg5 fullShare x5
            ∗ owns (c : Thread nD τ) arg20 fullShare (VecWindow.put wq ![256 * (i 0).val, 0] S256x2304.size (k0_pay5 x5 (cell inv 1)))
            ∗ owns (c : Thread nD τ) arg23 fullShare (k0_pay3 x5 aw)
            ∗ owns (c : Thread nD τ) arg25 fullShare inv
            ∗ owns (c : Thread nD τ) arg15 fullShare (k0_pay4 x5 (cell inv 1))) -∗ K ⟨⟩))
      ⊢ wp frame (wpE (defs₀ (F := F)) Variants.none c none) E (cc0_fp8_linear_fwd_bwd i
          arg1 harg1 arg2 harg2 arg3 harg3 arg4 harg4 arg5 harg5 arg6 harg6 arg7 harg7 arg8 harg8 arg9 harg9
          arg10 harg10 arg11 harg11 arg12 harg12 arg13 harg13 arg14 harg14 arg15 harg15 arg16 harg16 arg17 harg17
          arg18 harg18 arg19 harg19 arg20 harg20 arg21 harg21 arg22 harg22 arg23 harg23 arg24 harg24 arg25 harg25) K := by
  simp only [cc0_fp8_linear_fwd_bwd_eq_skeleton]; unfold cc0_fp8_linear_fwd_bwd_skel

  unfold owns
  iintro ⟨⟨%f5, %hf5, H5⟩, ⟨%f20, %hf20, H20⟩, ⟨%f23, %hf23, H23⟩, ⟨%f25, %hf25, H25⟩, ⟨%d15, %f15, -, H15⟩, Hk⟩
  obtain rfl := harg5.eq_unread hf5; obtain rfl := harg20.eq_unread hf20; obtain rfl := harg23.eq_unread hf23; obtain rfl := harg25.eq_unread hf25
  sl_exec
  sl_step
  iapply Hk
  isplitl [H5]
  · iexists _; isplitr; rotate_left
    · iexact H5
    ipureintro
    exact harg5.read_unread _
  isplitl [H20]
  · iexists _; isplitr; rotate_left
    · iexact H20
    ipureintro
    rw [View.read_writes_cons_put _ _ _ _ _ (k0_off1_eq i), View.writes_nil, harg20.read_unread]; repeat rw [Memref.IsWhole.readAt_full_unread]
    unfold run_weight.sl.r
    rw [harg25.readAt_cell inv 1]
  isplitl [H23]
  · iexists _; isplitr; rotate_left
    · iexact H23
    ipureintro
    rw [View.read_writes_full]; repeat rw [Memref.IsWhole.readAt_full_unread]
  isplitl [H25]
  · iexists _; isplitr; rotate_left
    · iexact H25
    ipureintro
    exact harg25.read_unread _
  iexists _; isplitr; rotate_left
  · iexact H15
  ipureintro
  rw [View.read_writes_full]; repeat rw [Memref.IsWhole.readAt_full_unread]
  unfold run_weight.sl.r
  rw [harg25.readAt_cell inv 1]

end Cert.KernelIdeal.Hand

end
-- ==== Proof.KI.Body.lean ====
/-
  What the body is called with and what it returns, window by window, and its points of the weight phase.
-/
module

public import proofs.«01_k».proof.Proof.KI.Dats
public import proofs.«01_k».proof.Proof.KI.RunFirst
public import proofs.«01_k».proof.Proof.KI.RunWeight

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d))
    ∗ (∃ d, owns (c : Thread nD τ) (win0_16.stage (cfg0.slots t 16)) fullShare ((dats m 0 c).before 16 t d))
    ∗ (∃ d, owns (c : Thread nD τ) (win0_17.stage (cfg0.slots t 17)) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

/-! ## The body at a point of each phase -/

set_option maxHeartbeats 1000000 in
/-- The first point. -/
theorem body_first (c : Dev nD) (t : Fin cfg0.N) (h0 : t.val = 0) :
    bodyPre m c t ⊢ wp frame (wpE (defs₀ (F := F)) Variants.none c none) Set.univ (bodyAt0 t) (fun _ => bodyPost m c t) := by
  have ht : t.val < 24 := t.isLt
  have e4 : iblk m c 4 t = tileW m c t.val := tileW_eq m c t
  have e14 : (dats m 0 c).after 14 t = k0_pay4 (tileW m c t.val) (wInv (H2 m c)) := by
    rw [after0_14, show min t.val 7 = t.val by omega]
  unfold bodyPre bodyPost bodyAt0
  simp only [before0_0, before0_1, before0_2, before0_3, before0_4, before0_5, e4, iblk0_const, iblk1_const, iblk2_const]
  rw [show (dats m 0 c).Φ t.castSucc = scr m c t.val from rfl, show (dats m 0 c).Φ t.succ = scr m c (t.val + 1) from rfl,
    show (dats m 0 c).owesAt () t.succ = (dats m 0 c).owesAt () t.castSucc from rfl]
  unfold scr
  iintro ⟨⟨%xq, %wq, %dyq, %ax, %aw, %ady, %inv, %hI, S0, S1, S2, S3, S4, S5, S6, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply (run_first c (grid0.coords t) _ _ _ _ _ _ _ _ _ _ _ _ _ _ _ _ _ _ _ _ _ _ _ _ _ _ _ _ _ _ _ _ _ _ _ _ _ _ _ _ _ _ _ _ _ _ _ _ _ _
    ((cond1_iff t).2 (by omega)) ((cond2_iff t).2 (by omega)) (fun h => by have := (cond3_iff t).1 h; omega) (fun h => by have := (cond4_iff t).1 h; omega) (fun h => by have := (cond5_iff t).1 h; omega)
    (H1 m c) (H2 m c) (H3 m c) (tileW m c t.val) wq Set.univ _)
  isplitl [H0]; · iexact H0
  isplitl [H1]; · iexact H1
  isplitl [H2]; · iexact H2
  isplitl [H4]; · iexact H4
  isplitl [S1]; · iexact S1
  isplitl [H13]; · iexists _; iexact H13
  isplitl [H14]; · iexists _; iexact H14
  isplitl [H15]; · iexists _; iexact H15
  isplitl [H17]; · iexists _; iexact H17
  isplitl [S3]; · iexists _; iexact S3
  isplitl [S4]; · iexists _; iexact S4
  isplitl [S5]; · iexists _; iexact S5
  isplitl [S6]; · iexists _; iexact S6
  iintro ⟨H0, H1, H2, H4, S1, H13, H14, H15, H17, S3, S4, S5, S6⟩
  rw [show ((grid0.coords t) 0).val = t.val from coords_val t]
  isplitl [S0 S1 S2 S3 S4 S5 S6 Hp]
  · iexists _; iexists _; iexists _; iexists _; iexists _; iexists _; iexists _
    isplitr; · ipureintro; exact hI.first h0
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Hp
  isplitl [Ho]; · iexact Ho
  isplitl [H0]; · iapply leaves_store (m := m) (c := c) (t := t) 0 rfl ((after0_0 m c t).trans (iblk0_const t)); iexact H0
  isplitl [H1]; · iapply leaves_store (m := m) (c := c) (t := t) 1 rfl ((after0_1 m c t).trans (iblk1_const t)); iexact H1
  isplitl [H2]; · iapply leaves_store (m := m) (c := c) (t := t) 2 rfl ((after0_2 m c t).trans (iblk2_const t)); iexact H2
  isplitl [H3]; · iapply leaves_store (m := m) (c := c) (t := t) 3 rfl (after0_3 m c t); iexact H3
  isplitl [H4]; · iapply leaves_store (m := m) (c := c) (t := t) 4 rfl ((after0_4 m c t).trans e4); iexact H4
  isplitl [H5]; · iapply leaves_store (m := m) (c := c) (t := t) 5 rfl (after0_5 m c t); iexact H5
  isplitl [H6]; · iapply leaves_keep (m := m) (c := c) (t := t) 6 ((idle_tok t).trans (by rw [decide_eq_false (by omega)]; rfl)) ((flush6 t).trans (decide_eq_false (by omega))) _; iexact H6
  isplitl [H7]; · iapply leaves_keep (m := m) (c := c) (t := t) 7 ((idle_tok t).trans (by rw [decide_eq_false (by omega)]; rfl)) ((flush7 t).trans (decide_eq_false (by omega))) _; iexact H7
  isplitl [H8]; · iapply leaves_keep (m := m) (c := c) (t := t) 8 ((idle_dw t).trans (by rw [decide_eq_false (by omega)]; rfl)) ((flush8 t).trans (decide_eq_false (by omega))) _; iexact H8
  isplitl [H9]; · iapply leaves_keep (m := m) (c := c) (t := t) 9 ((idle_last t).trans (by rw [decide_eq_false (by omega)]; rfl)) ((flush9 t).trans (decide_eq_false (by omega))) _; iexact H9
  isplitl [H10]; · iapply leaves_keep (m := m) (c := c) (t := t) 10 ((idle_last t).trans (by rw [decide_eq_false (by omega)]; rfl)) ((flush10 t).trans (decide_eq_false (by omega))) _; iexact H10
  isplitl [H11]; · iapply leaves_keep (m := m) (c := c) (t := t) 11 ((idle_last t).trans (by rw [decide_eq_false (by omega)]; rfl)) ((flush11 t).trans (decide_eq_false (by omega))) _; iexact H11
  isplitl [H12]; · iapply leaves_keep (m := m) (c := c) (t := t) 12 ((idle_tok t).trans (by rw [decide_eq_false (by omega)]; rfl)) ((flush12 t).trans (decide_eq_false (by omega))) _; iexact H12
  isplitl [H13]; · iapply leaves_store (m := m) (c := c) (t := t) 13 ((idle_first t).trans (by rw [decide_eq_true (by omega)]; rfl)) (after0_13 m c t); iexact H13
  isplitl [H14]; · iapply leaves_store (m := m) (c := c) (t := t) 14 ((idle_weight t).trans (by rw [decide_eq_true (by omega)]; rfl)) e14; iexact H14
  isplitl [H15]; · iapply leaves_store (m := m) (c := c) (t := t) 15 ((idle_first t).trans (by rw [decide_eq_true (by omega)]; rfl)) (after0_15 m c t); iexact H15
  isplitl [H16]; · iapply leaves_keep (m := m) (c := c) (t := t) 16 ((idle_tok t).trans (by rw [decide_eq_false (by omega)]; rfl)) ((flush16 t).trans (decide_eq_false (by omega))) _; iexact H16
  iapply leaves_store (m := m) (c := c) (t := t) 17 ((idle_first t).trans (by rw [decide_eq_true (by omega)]; rfl)) (after0_17 m c t); iexact H17

set_option maxHeartbeats 1000000 in
/-- A later point of the weight phase. -/
theorem body_weight (c : Dev nD) (t : Fin cfg0.N) (h1 : 1 ≤ t.val) (h8 : t.val < 8) :
    bodyPre m c t ⊢ wp frame (wpE (defs₀ (F := F)) Variants.none c none) Set.univ (bodyAt0 t) (fun _ => bodyPost m c t) := by
  have ht : t.val < 24 := t.isLt
  have e4 : iblk m c 4 t = tileW m c t.val := tileW_eq m c t
  have e14 : (dats m 0 c).after 14 t = k0_pay4 (tileW m c t.val) (wInv (H2 m c)) := by
    rw [after0_14, show min t.val 7 = t.val by omega]
  unfold bodyPre bodyPost bodyAt0
  simp only [before0_0, before0_1, before0_2, before0_3, before0_4, before0_5, before0_13 m c t h1, before0_15 m c t h1, before0_17 m c t h1,
    after0_13, after0_15, after0_17, e4]
  rw [show (dats m 0 c).Φ t.castSucc = scr m c t.val from rfl, show (dats m 0 c).Φ t.succ = scr m c (t.val + 1) from rfl,
    show (dats m 0 c).owesAt () t.succ = (dats m 0 c).owesAt () t.castSucc from rfl]
  unfold scr
  iintro ⟨⟨%xq, %wq, %dyq, %ax, %aw, %ady, %inv, %hI, S0, S1, S2, S3, S4, S5, S6, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  obtain rfl := hI.hinv h1
  iapply (run_weight c (grid0.coords t) _ _ _ _ _ _ _ _ _ _ _ _ _ _ _ _ _ _ _ _ _ _ _ _ _ _ _ _ _ _ _ _ _ _ _ _ _ _ _ _ _ _ _ _ _ _ _ _ _ _
    (fun h => by have := (cond1_iff t).1 h; omega) ((cond2_iff t).2 (by omega)) (fun h => by have := (cond3_iff t).1 h; omega) (fun h => by have := (cond4_iff t).1 h; omega) (fun h => by have := (cond5_iff t).1 h; omega)
    (tileW m c t.val) wq aw (invs (H1 m c) (H2 m c) (H3 m c)) Set.univ _)
  isplitl [H4]; · iexact H4
  isplitl [S1]; · iexact S1
  isplitl [S4]; · iexact S4
  isplitl [S6]; · iexact S6
  isplitl [H14]; · iexists _; iexact H14
  iintro ⟨H4, S1, S4, S6, H14⟩
  rw [show ((grid0.coords t) 0).val = t.val from coords_val t]
  isplitl [S0 S1 S2 S3 S4 S5 S6 Hp]
  · iexists _; iexists _; iexists _; iexists _; iexists _; iexists _; iexists _
    isplitr; · ipureintro; exact hI.weight h1 h8
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Hp
  isplitl [Ho]; · iexact Ho
  isplitl [H0]; · iapply leaves_store (m := m) (c := c) (t := t) 0 rfl (after0_0 m c t); iexact H0
  isplitl [H1]; · iapply leaves_store (m := m) (c := c) (t := t) 1 rfl (after0_1 m c t); iexact H1
  isplitl [H2]; · iapply leaves_store (m := m) (c := c) (t := t) 2 rfl (after0_2 m c t); iexact H2
  isplitl [H3]; · iapply leaves_store (m := m) (c := c) (t := t) 3 rfl (after0_3 m c t); iexact H3
  isplitl [H4]; · iapply leaves_store (m := m) (c := c) (t := t) 4 rfl ((after0_4 m c t).trans e4); iexact H4
  isplitl [H5]; · iapply leaves_store (m := m) (c := c) (t := t) 5 rfl (after0_5 m c t); iexact H5
  isplitl [H6]; · iapply leaves_keep (m := m) (c := c) (t := t) 6 ((idle_tok t).trans (by rw [decide_eq_false (by omega)]; rfl)) ((flush6 t).trans (decide_eq_false (by omega))) _; iexact H6
  isplitl [H7]; · iapply leaves_keep (m := m) (c := c) (t := t) 7 ((idle_tok t).trans (by rw [decide_eq_false (by omega)]; rfl)) ((flush7 t).trans (decide_eq_false (by omega))) _; iexact H7
  isplitl [H8]; · iapply leaves_keep (m := m) (c := c) (t := t) 8 ((idle_dw t).trans (by rw [decide_eq_false (by omega)]; rfl)) ((flush8 t).trans (decide_eq_false (by omega))) _; iexact H8
  isplitl [H9]; · iapply leaves_keep (m := m) (c := c) (t := t) 9 ((idle_last t).trans (by rw [decide_eq_false (by omega)]; rfl)) ((flush9 t).trans (decide_eq_false (by omega))) _; iexact H9
  isplitl [H10]; · iapply leaves_keep (m := m) (c := c) (t := t) 10 ((idle_last t).trans (by rw [decide_eq_false (by omega)]; rfl)) ((flush10 t).trans (decide_eq_false (by omega))) _; iexact H10
  isplitl [H11]; · iapply leaves_keep (m := m) (c := c) (t := t) 11 ((idle_last t).trans (by rw [decide_eq_false (by omega)]; rfl)) ((flush11 t).trans (decide_eq_false (by omega))) _; iexact H11
  isplitl [H12]; · iapply leaves_keep (m := m) (c := c) (t := t) 12 ((idle_tok t).trans (by rw [decide_eq_false (by omega)]; rfl)) ((flush12 t).trans (decide_eq_false (by omega))) _; iexact H12
  isplitl [H13]; · iapply leaves_same (m := m) (c := c) (t := t) 13 (before0_13 m c t h1) (after0_13 m c t); iexact H13
  isplitl [H14]; · iapply leaves_store (m := m) (c := c) (t := t) 14 ((idle_weight t).trans (by rw [decide_eq_true (by omega)]; rfl)) e14; iexact H14
  isplitl [H15]; · iapply leaves_same (m := m) (c := c) (t := t) 15 (before0_15 m c t h1) (after0_15 m c t); iexact H15
  isplitl [H16]; · iapply leaves_keep (m := m) (c := c) (t := t) 16 ((idle_tok t).trans (by rw [decide_eq_false (by omega)]; rfl)) ((flush16 t).trans (decide_eq_false (by omega))) _; iexact H16
  iapply leaves_same (m := m) (c := c) (t := t) 17 (before0_17 m c t h1) (after0_17 m c t); iexact H17

end Cert.KernelIdeal.Hand

end
-- ==== Proof.KI.RunToken.lean ====
/-
  The token phase of the kernel body.
-/
module

public import proofs.«01_k».proof.Proof.KI.Spec
public import proofs.«01_k».proof.Proof.Reads
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The token phase: the maxima of the tokens and of the gradient take the tiles' in, both tiles' codes go to their result
    blocks and to their rows of the stored codes, and the tile's rows of the output and of the tokens' gradient are products
    with the stored codes of the weights. -/
theorem run_token (c : Dev nD) (i : grid0.Coords)
    (arg1 : Memref sig .tc .smem S16 .f32) (harg1 : arg1.IsWhole)
    (arg2 : Memref sig .tc .smem S16 .f32) (harg2 : arg2.IsWhole)
    (arg3 : Memref sig .tc .smem S16 .f32) (harg3 : arg3.IsWhole)
    (arg4 : Memref sig .tc .vmem S512x2048 .bf16) (harg4 : arg4.IsWhole)
    (arg5 : Memref sig .tc .vmem S256x2304 .f32) (harg5 : arg5.IsWhole)
    (arg6 : Memref sig .tc .vmem S512x2304 .bf16) (harg6 : arg6.IsWhole)
    (arg7 : Memref sig .tc .vmem S64x8x2304 .bf16) (harg7 : arg7.IsWhole)
    (arg8 : Memref sig .tc .vmem S64x8x2048 .bf16) (harg8 : arg8.IsWhole)
    (arg9 : Memref sig .tc .vmem S256x2304 .f32) (harg9 : arg9.IsWhole)
    (arg10 : Memref sig .tc .smem S16 .f32) (harg10 : arg10.IsWhole)
    (arg11 : Memref sig .tc .smem S16 .f32) (harg11 : arg11.IsWhole)
    (arg12 : Memref sig .tc .smem S16 .f32) (harg12 : arg12.IsWhole)
    (arg13 : Memref sig .tc .vmem S512x2048 .fp8e4m3) (harg13 : arg13.IsWhole)
    (arg14 : Memref sig .tc .smem S1 .f32) (harg14 : arg14.IsWhole)
    (arg15 : Memref sig .tc .vmem S256x2304 .fp8e4m3) (harg15 : arg15.IsWhole)
    (arg16 : Memref sig .tc .smem S1 .f32) (harg16 : arg16.IsWhole)
    (arg17 : Memref sig .tc .vmem S512x2304 .fp8e5m2) (harg17 : arg17.IsWhole)
    (arg18 : Memref sig .tc .smem S1 .f32) (harg18 : arg18.IsWhole)
    (arg19 : Memref sig .tc .vmem S8x4096x256 .fp8e4m3) (harg19 : arg19.IsWhole)
    (arg20 : Memref sig .tc .vmem S2048x2304 .fp8e4m3) (harg20 : arg20.IsWhole)
    (arg21 : Memref sig .tc .vmem S4096x2304 .fp8e5m2) (harg21 : arg21.IsWhole)
    (arg22 : Memref sig .tc .vmem S16x2048 .bf16) (harg22 : arg22.IsWhole)
    (arg23 : Memref sig .tc .vmem S8x2304 .f32) (harg23 : arg23.IsWhole)
    (arg24 : Memref sig .tc .vmem S16x2304 .bf16) (harg24 : arg24.IsWhole)
    (arg25 : Memref sig .tc .smem S3 .f32) (harg25 : arg25.IsWhole)
    (hc1 : ¬ k0_cond1 i = 1#1) (hc2 : ¬ k0_cond2 i = 1#1) (hc3 : k0_cond3 i = 1#1) (hc4 : ¬ k0_cond4 i = 1#1) (hc5 : ¬ k0_cond5 i = 1#1)
    (x4 : Vec F S512x2048 .bf16)
    (x6 : Vec F S512x2304 .bf16)
    (xs : Vec F S1 .f32)
    (ws : Vec F S1 .f32)
    (dys : Vec F S1 .f32)
    (xq : Vec F S8x4096x256 .fp8e4m3)
    (wq : Vec F S2048x2304 .fp8e4m3)
    (dyq : Vec F S4096x2304 .fp8e5m2)
    (ax : Vec F S16x2048 .bf16)
    (ady : Vec F S16x2304 .bf16)
    (inv : Vec F S3 .f32)
    (E : Set ℕ) (K : PUnit → sProp 𝕄) :
    iprop(owns (c : Thread nD τ) arg4 fullShare x4
            ∗ owns (c : Thread nD τ) arg6 fullShare x6
            ∗ owns (c : Thread nD τ) arg14 fullShare xs
            ∗ owns (c : Thread nD τ) arg16 fullShare ws
            ∗ owns (c : Thread nD τ) arg18 fullShare dys
            ∗ owns (c : Thread nD τ) arg19 fullShare xq
            ∗ owns (c : Thread nD τ) arg20 fullShare wq
            ∗ owns (c : Thread nD τ) arg21 fullShare dyq
            ∗ owns (c : Thread nD τ) arg22 fullShare ax
            ∗ owns (c : Thread nD τ) arg24 fullShare ady
            ∗ owns (c : Thread nD τ) arg25 fullShare inv
            ∗ (∃ d, owns (c : Thread nD τ) arg7 fullShare d)
            ∗ (∃ d, owns (c : Thread nD τ) arg8 fullShare d)
            ∗ (∃ d, owns (c : Thread nD τ) arg13 fullShare d)
            ∗ (∃ d, owns (c : Thread nD τ) arg17 fullShare d)
            ∗ (iprop(owns (c : Thread nD τ) arg4 fullShare x4
            ∗ owns (c : Thread nD τ) arg6 fullShare x6
            ∗ owns (c : Thread nD τ) arg14 fullShare xs
            ∗ owns (c : Thread nD τ) arg16 fullShare ws
            ∗ owns (c : Thread nD τ) arg18 fullShare dys
            ∗ owns (c : Thread nD τ) arg19 fullShare (putX xq (tokRow i) (xCode x4 (cell inv 0)))
            ∗ owns (c : Thread nD τ) arg20 fullShare wq
            ∗ owns (c : Thread nD τ) arg21 fullShare (VecWindow.put dyq ![tokRow i, 0] S512x2304.size (k0_pay52 (dyCode x6 (cell inv 2))))
            ∗ owns (c : Thread nD τ) arg22 fullShare (k0_pay39 x4 ax)
            ∗ owns (c : Thread nD τ) arg24 fullShare (k0_pay40 x6 ady)
            ∗ owns (c : Thread nD τ) arg25 fullShare inv
            ∗ owns (c : Thread nD τ) arg7 fullShare (k0_pay53 (xCode x4 (cell inv 0)) wq (cell xs 0) (cell ws 0))
            ∗ owns (c : Thread nD τ) arg8 fullShare (k0_pay54 (dyCode x6 (cell inv 2)) wq (cell dys 0) (cell ws 0))
            ∗ owns (c : Thread nD τ) arg13 fullShare (xCode x4 (cell inv 0))
            ∗ owns (c : Thread nD τ) arg17 fullShare (dyCode x6 (cell inv 2))) -∗ K ⟨⟩))
      ⊢ wp frame (wpE (defs₀ (F := F)) Variants.none c none) E (cc0_fp8_linear_fwd_bwd i
          arg1 harg1 arg2 harg2 arg3 harg3 arg4 harg4 arg5 harg5 arg6 harg6 arg7 harg7 arg8 harg8 arg9 harg9
          arg10 harg10 arg11 harg11 arg12 harg12 arg13 harg13 arg14 harg14 arg15 harg15 arg16 harg16 arg17 harg17
          arg18 harg18 arg19 harg19 arg20 harg20 arg21 harg21 arg22 harg22 arg23 harg23 arg24 harg24 arg25 harg25) K := by
  simp only [cc0_fp8_linear_fwd_bwd_eq_skeleton]; unfold cc0_fp8_linear_fwd_bwd_skel
  simp only [k0_part14_eq_skeleton, k0_part12_eq_skeleton, k0_part13_eq_skeleton]
  unfold owns
  iintro ⟨⟨%f4, %hf4, H4⟩, ⟨%f6, %hf6, H6⟩, ⟨%f14, %hf14, H14⟩, ⟨%f16, %hf16, H16⟩, ⟨%f18, %hf18, H18⟩, ⟨%f19, %hf19, H19⟩, ⟨%f20, %hf20, H20⟩, ⟨%f21, %hf21, H21⟩, ⟨%f22, %hf22, H22⟩, ⟨%f24, %hf24, H24⟩, ⟨%f25, %hf25, H25⟩, ⟨%d7, %f7, -, H7⟩, ⟨%d8, %f8, -, H8⟩, ⟨%d13, %f13, -, H13⟩, ⟨%d17, %f17, -, H17⟩, Hk⟩
  obtain rfl := harg4.eq_unread hf4; obtain rfl := harg6.eq_unread hf6; obtain rfl := harg14.eq_unread hf14; obtain rfl := harg16.eq_unread hf16; obtain rfl := harg18.eq_unread hf18; obtain rfl := harg19.eq_unread hf19; obtain rfl := harg20.eq_unread hf20; obtain rfl := harg21.eq_unread hf21; obtain rfl := harg22.eq_unread hf22; obtain rfl := harg24.eq_unread hf24; obtain rfl := harg25.eq_unread hf25
  have hrow := tokRow_lt i hc3
  sl_exec
  sl_step
  iapply Hk
  isplitl [H4]
  · iexists _; isplitr; rotate_left
    · iexact H4
    ipureintro
    exact harg4.read_unread _
  isplitl [H6]
  · iexists _; isplitr; rotate_left
    · iexact H6
    ipureintro
    exact harg6.read_unread _
  isplitl [H14]
  · iexists _; isplitr; rotate_left
    · iexact H14
    ipureintro
    exact harg14.read_unread _
  isplitl [H16]
  · iexists _; isplitr; rotate_left
    · iexact H16
    ipureintro
    exact harg16.read_unread _
  isplitl [H18]
  · iexists _; isplitr; rotate_left
    · iexact H18
    ipureintro
    exact harg18.read_unread _
  isplitl [H19]
  · iexists _; isplitr; rotate_left
    · iexact H19
    ipureintro
    rw [View.read_writes_cons_put _ _ _ _ _ (off9_eq i), View.read_writes_cons_put _ _ _ _ _ (off8_eq i),
        View.read_writes_cons_put _ _ _ _ _ (off7_eq i), View.read_writes_cons_put _ _ _ _ _ (off6_eq i),
        View.read_writes_cons_put _ _ _ _ _ (off5_eq i), View.read_writes_cons_put _ _ _ _ _ (off4_eq i),
        View.read_writes_cons_put _ _ _ _ _ (off3_eq i), View.read_writes_cons_put _ _ _ _ _ (off2_eq i),
        View.writes_nil, harg19.read_unread]
    have e : run_token.sl.r_2 c arg4 harg4 arg25 harg25 x4 inv = xCode x4 (cell inv 0) :=
      congr (congrArg k0_pay41 (harg4.readAt_full_unread x4 _)) (harg25.readAt_cell inv 0 _ _ _)
    rw [← e]; rfl
  isplitl [H20]
  · iexists _; isplitr; rotate_left
    · iexact H20
    ipureintro
    exact harg20.read_unread _
  isplitl [H21]
  · iexists _; isplitr; rotate_left
    · iexact H21
    ipureintro
    rw [View.read_writes_cons_put _ _ _ _ _ (off10_eq i), View.writes_nil, harg21.read_unread]
    have e : run_token.sl.r_4 c arg6 harg6 arg25 harg25 x6 inv = dyCode x6 (cell inv 2) :=
      congrArg (fun v => k0_pay43 v _ _)
        (congr (congrArg k0_pay42 (harg6.readAt_full_unread x6 _)) (harg25.readAt_cell inv 2 _ _ _))
    rw [← e]
  isplitl [H22]
  · iexists _; isplitr; rotate_left
    · iexact H22
    ipureintro
    rw [View.read_writes_full]; repeat rw [Memref.IsWhole.readAt_full_unread]
  isplitl [H24]
  · iexists _; isplitr; rotate_left
    · iexact H24
    ipureintro
    rw [View.read_writes_full]; repeat rw [Memref.IsWhole.readAt_full_unread]
  isplitl [H25]
  · iexists _; isplitr; rotate_left
    · iexact H25
    ipureintro
    exact harg25.read_unread _
  isplitl [H7]
  · iexists _; isplitr; rotate_left
    · iexact H7
    ipureintro
    rw [View.read_writes_full]; repeat rw [Memref.IsWhole.readAt_full_unread]
    have e : run_token.sl.r_2 c arg4 harg4 arg25 harg25 x4 inv = xCode x4 (cell inv 0) :=
      congr (congrArg k0_pay41 (harg4.readAt_full_unread x4 _)) (harg25.readAt_cell inv 0 _ _ _)
    exact congr (congr (congr (congrArg k0_pay53 e) rfl) (harg14.readAt_cell xs 0 _ _ _)) (harg16.readAt_cell ws 0 _ _ _)
  isplitl [H8]
  · iexists _; isplitr; rotate_left
    · iexact H8
    ipureintro
    rw [View.read_writes_full]; repeat rw [Memref.IsWhole.readAt_full_unread]
    have e : run_token.sl.r_4 c arg6 harg6 arg25 harg25 x6 inv = dyCode x6 (cell inv 2) :=
      congrArg (fun v => k0_pay43 v _ _)
        (congr (congrArg k0_pay42 (harg6.readAt_full_unread x6 _)) (harg25.readAt_cell inv 2 _ _ _))
    exact congr (congr (congr (congrArg k0_pay54 e) rfl) (harg18.readAt_cell dys 0 _ _ _)) (harg16.readAt_cell ws 0 _ _ _)
  isplitl [H13]
  · iexists _; isplitr; rotate_left
    · iexact H13
    ipureintro
    rw [View.read_writes_full]
    exact congr (congrArg k0_pay41 (harg4.readAt_full_unread x4 _)) (harg25.readAt_cell inv 0 _ _ _)
  iexists _; isplitr; rotate_left
  · iexact H17
  ipureintro
  rw [View.read_writes_full]
  exact congrArg (fun v => k0_pay43 v _ _)
      (congr (congrArg k0_pay42 (harg6.readAt_full_unread x6 _)) (harg25.readAt_cell inv 2 _ _ _))

end Cert.KernelIdeal.Hand

end
-- ==== Proof.KI.BodyToken.lean ====
/-
  The body at a point of the token phase.
-/
module

public import proofs.«01_k».proof.Proof.KI.Body
public import proofs.«01_k».proof.Proof.KI.RunToken

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- A point of the token phase. -/
theorem body_token (c : Dev nD) (t : Fin cfg0.N) (h8 : 8 ≤ t.val) (h16 : t.val < 16) :
    bodyPre m c t ⊢ wp frame (wpE (defs₀ (F := F)) Variants.none c none) Set.univ (bodyAt0 t) (fun _ => bodyPost m c t) := by
  have ht : t.val < 24 := t.isLt
  have h1 : 1 ≤ t.val := by omega
  have e3 : iblk m c 3 t = tileX m c (t.val - 8) := tileX_eq m c t h8
  have e5 : iblk m c 5 t = tileDy m c (t.val - 8) := tileDy_eq m c t h8
  have ek : tok t.val = t.val - 8 := by show min (t.val - 8) 7 = _; omega
  have e6 : (dats m 0 c).after 6 t = k0_pay53 (codeX m c (t.val - 8)) (allW m c) (xScale (H1 m c)) (wScale (H2 m c)) := by
    rw [after0_6, ek]
  have e7 : (dats m 0 c).after 7 t = k0_pay54 (codeDy m c (t.val - 8)) (allW m c) (dyScale (H3 m c)) (wScale (H2 m c)) := by
    rw [after0_7, ek]
  have e12 : (dats m 0 c).after 12 t = codeX m c (t.val - 8) := by rw [after0_12, ek]
  have e16 : (dats m 0 c).after 16 t = codeDy m c (t.val - 8) := by rw [after0_16, ek]
  unfold bodyPre bodyPost bodyAt0
  simp only [before0_0, before0_1, before0_2, before0_3, before0_4, before0_5, before0_13 m c t h1, before0_15 m c t h1, before0_17 m c t h1,
    after0_13, after0_15, after0_17, e3, e5]
  rw [show (dats m 0 c).Φ t.castSucc = scr m c t.val from rfl, show (dats m 0 c).Φ t.succ = scr m c (t.val + 1) from rfl,
    show (dats m 0 c).owesAt () t.succ = (dats m 0 c).owesAt () t.castSucc from rfl]
  unfold scr
  iintro ⟨⟨%xq, %wq, %dyq, %ax, %aw, %ady, %inv, %hI, S0, S1, S2, S3, S4, S5, S6, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  obtain rfl := hI.hinv h1
  obtain rfl := hI.wq_eq h8
  iapply (run_token c (grid0.coords t) _ _ _ _ _ _ _ _ _ _ _ _ _ _ _ _ _ _ _ _ _ _ _ _ _ _ _ _ _ _ _ _ _ _ _ _ _ _ _ _ _ _ _ _ _ _ _ _ _ _
    (fun h => by have := (cond1_iff t).1 h; omega) (fun h => by have := (cond2_iff t).1 h; omega) ((cond3_iff t).2 (by omega)) (fun h => by have := (cond4_iff t).1 h; omega) (fun h => by have := (cond5_iff t).1 h; omega)
    (tileX m c (t.val - 8)) (tileDy m c (t.val - 8)) (fun _ => xScale (H1 m c)) (fun _ => wScale (H2 m c))
    (fun _ => dyScale (H3 m c)) xq (allW m c) dyq ax ady (invs (H1 m c) (H2 m c) (H3 m c)) Set.univ _)
  isplitl [H3]; · iexact H3
  isplitl [H5]; · iexact H5
  isplitl [H13]; · iexact H13
  isplitl [H15]; · iexact H15
  isplitl [H17]; · iexact H17
  isplitl [S0]; · iexact S0
  isplitl [S1]; · iexact S1
  isplitl [S2]; · iexact S2
  isplitl [S3]; · iexact S3
  isplitl [S5]; · iexact S5
  isplitl [S6]; · iexact S6
  isplitl [H6]; · iexists _; iexact H6
  isplitl [H7]; · iexists _; iexact H7
  isplitl [H12]; · iexists _; iexact H12
  isplitl [H16]; · iexists _; iexact H16
  iintro ⟨H3, H5, H13, H15, H17, S0, S1, S2, S3, S5, S6, H6, H7, H12, H16⟩
  rw [tokRow_eq t h8 h16, pay52_eq]
  isplitl [S0 S1 S2 S3 S4 S5 S6 Hp]
  · iexists _; iexists _; iexists _; iexists _; iexists _; iexists _; iexists _
    isplitr; · ipureintro; exact hI.token_at h8 h16
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Hp
  isplitl [Ho]; · iexact Ho
  isplitl [H0]; · iapply leaves_store (m := m) (c := c) (t := t) 0 rfl (after0_0 m c t); iexact H0
  isplitl [H1]; · iapply leaves_store (m := m) (c := c) (t := t) 1 rfl (after0_1 m c t); iexact H1
  isplitl [H2]; · iapply leaves_store (m := m) (c := c) (t := t) 2 rfl (after0_2 m c t); iexact H2
  isplitl [H3]; · iapply leaves_store (m := m) (c := c) (t := t) 3 rfl ((after0_3 m c t).trans e3); iexact H3
  isplitl [H4]; · iapply leaves_store (m := m) (c := c) (t := t) 4 rfl (after0_4 m c t); iexact H4
  isplitl [H5]; · iapply leaves_store (m := m) (c := c) (t := t) 5 rfl ((after0_5 m c t).trans e5); iexact H5
  isplitl [H6]; · iapply leaves_store (m := m) (c := c) (t := t) 6 ((idle_tok t).trans (by rw [decide_eq_true (by omega)]; rfl)) e6; iexact H6
  isplitl [H7]; · iapply leaves_store (m := m) (c := c) (t := t) 7 ((idle_tok t).trans (by rw [decide_eq_true (by omega)]; rfl)) e7; iexact H7
  isplitl [H8]; · iapply leaves_keep (m := m) (c := c) (t := t) 8 ((idle_dw t).trans (by rw [decide_eq_false (by omega)]; rfl)) ((flush8 t).trans (decide_eq_false (by omega))) _; iexact H8
  isplitl [H9]; · iapply leaves_keep (m := m) (c := c) (t := t) 9 ((idle_last t).trans (by rw [decide_eq_false (by omega)]; rfl)) ((flush9 t).trans (decide_eq_false (by omega))) _; iexact H9
  isplitl [H10]; · iapply leaves_keep (m := m) (c := c) (t := t) 10 ((idle_last t).trans (by rw [decide_eq_false (by omega)]; rfl)) ((flush10 t).trans (decide_eq_false (by omega))) _; iexact H10
  isplitl [H11]; · iapply leaves_keep (m := m) (c := c) (t := t) 11 ((idle_last t).trans (by rw [decide_eq_false (by omega)]; rfl)) ((flush11 t).trans (decide_eq_false (by omega))) _; iexact H11
  isplitl [H12]; · iapply leaves_store (m := m) (c := c) (t := t) 12 ((idle_tok t).trans (by rw [decide_eq_true (by omega)]; rfl)) e12; iexact H12
  isplitl [H13]; · iapply leaves_same (m := m) (c := c) (t := t) 13 (before0_13 m c t h1) (after0_13 m c t); iexact H13
  isplitl [H14]; · iapply leaves_keep (m := m) (c := c) (t := t) 14 ((idle_weight t).trans (by rw [decide_eq_false (by omega)]; rfl)) ((flush14 t).trans (decide_eq_false (by omega))) _; iexact H14
  isplitl [H15]; · iapply leaves_same (m := m) (c := c) (t := t) 15 (before0_15 m c t h1) (after0_15 m c t); iexact H15
  isplitl [H16]; · iapply leaves_store (m := m) (c := c) (t := t) 16 ((idle_tok t).trans (by rw [decide_eq_true (by omega)]; rfl)) e16; iexact H16
  iapply leaves_same (m := m) (c := c) (t := t) 17 (before0_17 m c t h1) (after0_17 m c t); iexact H17

end Cert.KernelIdeal.Hand

end
-- ==== Proof.KI.RunDw.lean ====
/-
  The phase of the weights' gradient.
-/
module

public import proofs.«01_k».proof.Proof.KI.Spec
public import proofs.«01_k».proof.Proof.Reads
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The phase of the weights' gradient away from the last point: the block of rows is the product of a stored plane of the
    tokens with the stored gradient. -/
theorem run_dw (c : Dev nD) (i : grid0.Coords)
    (arg1 : Memref sig .tc .smem S16 .f32) (harg1 : arg1.IsWhole)
    (arg2 : Memref sig .tc .smem S16 .f32) (harg2 : arg2.IsWhole)
    (arg3 : Memref sig .tc .smem S16 .f32) (harg3 : arg3.IsWhole)
    (arg4 : Memref sig .tc .vmem S512x2048 .bf16) (harg4 : arg4.IsWhole)
    (arg5 : Memref sig .tc .vmem S256x2304 .f32) (harg5 : arg5.IsWhole)
    (arg6 : Memref sig .tc .vmem S512x2304 .bf16) (harg6 : arg6.IsWhole)
    (arg7 : Memref sig .tc .vmem S64x8x2304 .bf16) (harg7 : arg7.IsWhole)
    (arg8 : Memref sig .tc .vmem S64x8x2048 .bf16) (harg8 : arg8.IsWhole)
    (arg9 : Memref sig .tc .vmem S256x2304 .f32) (harg9 : arg9.IsWhole)
    (arg10 : Memref sig .tc .smem S16 .f32) (harg10 : arg10.IsWhole)
    (arg11 : Memref sig .tc .smem S16 .f32) (harg11 : arg11.IsWhole)
    (arg12 : Memref sig .tc .smem S16 .f32) (harg12 : arg12.IsWhole)
    (arg13 : Memref sig .tc .vmem S512x2048 .fp8e4m3) (harg13 : arg13.IsWhole)
    (arg14 : Memref sig .tc .smem S1 .f32) (harg14 : arg14.IsWhole)
    (arg15 : Memref sig .tc .vmem S256x2304 .fp8e4m3) (harg15 : arg15.IsWhole)
    (arg16 : Memref sig .tc .smem S1 .f32) (harg16 : arg16.IsWhole)
    (arg17 : Memref sig .tc .vmem S512x2304 .fp8e5m2) (harg17 : arg17.IsWhole)
    (arg18 : Memref sig .tc .smem S1 .f32) (harg18 : arg18.IsWhole)
    (arg19 : Memref sig .tc .vmem S8x4096x256 .fp8e4m3) (harg19 : arg19.IsWhole)
    (arg20 : Memref sig .tc .vmem S2048x2304 .fp8e4m3) (harg20 : arg20.IsWhole)
    (arg21 : Memref sig .tc .vmem S4096x2304 .fp8e5m2) (harg21 : arg21.IsWhole)
    (arg22 : Memref sig .tc .vmem S16x2048 .bf16) (harg22 : arg22.IsWhole)
    (arg23 : Memref sig .tc .vmem S8x2304 .f32) (harg23 : arg23.IsWhole)
    (arg24 : Memref sig .tc .vmem S16x2304 .bf16) (harg24 : arg24.IsWhole)
    (arg25 : Memref sig .tc .smem S3 .f32) (harg25 : arg25.IsWhole)
    (hc1 : ¬ k0_cond1 i = 1#1) (hc2 : ¬ k0_cond2 i = 1#1) (hc3 : ¬ k0_cond3 i = 1#1) (hc4 : k0_cond4 i = 1#1) (hc5 : ¬ k0_cond5 i = 1#1)
    (xs : Vec F S1 .f32)
    (dys : Vec F S1 .f32)
    (xq : Vec F S8x4096x256 .fp8e4m3)
    (dyq : Vec F S4096x2304 .fp8e5m2)
    (E : Set ℕ) (K : PUnit → sProp 𝕄) :
    iprop(owns (c : Thread nD τ) arg14 fullShare xs
            ∗ owns (c : Thread nD τ) arg18 fullShare dys
            ∗ owns (c : Thread nD τ) arg19 fullShare xq
            ∗ owns (c : Thread nD τ) arg21 fullShare dyq
            ∗ (∃ d, owns (c : Thread nD τ) arg9 fullShare d)
            ∗ (iprop(owns (c : Thread nD τ) arg14 fullShare xs
            ∗ owns (c : Thread nD τ) arg18 fullShare dys
            ∗ owns (c : Thread nD τ) arg19 fullShare xq
            ∗ owns (c : Thread nD τ) arg21 fullShare dyq
            ∗ owns (c : Thread nD τ) arg9 fullShare (k0_pay6 (VecWindow.window xq ![dwPlane i, 0, 0] S1x4096x256.size (dw_inb i hc4)) dyq (cell xs 0) (cell dys 0))) -∗ K ⟨⟩))
      ⊢ wp frame (wpE (defs₀ (F := F)) Variants.none c none) E (cc0_fp8_linear_fwd_bwd i
          arg1 harg1 arg2 harg2 arg3 harg3 arg4 harg4 arg5 harg5 arg6 harg6 arg7 harg7 arg8 harg8 arg9 harg9
          arg10 harg10 arg11 harg11 arg12 harg12 arg13 harg13 arg14 harg14 arg15 harg15 arg16 harg16 arg17 harg17
          arg18 harg18 arg19 harg19 arg20 harg20 arg21 harg21 arg22 harg22 arg23 harg23 arg24 harg24 arg25 harg25) K := by
  simp only [cc0_fp8_linear_fwd_bwd_eq_skeleton]; unfold cc0_fp8_linear_fwd_bwd_skel

  unfold owns
  iintro ⟨⟨%f14, %hf14, H14⟩, ⟨%f18, %hf18, H18⟩, ⟨%f19, %hf19, H19⟩, ⟨%f21, %hf21, H21⟩, ⟨%d9, %f9, -, H9⟩, Hk⟩
  obtain rfl := harg14.eq_unread hf14; obtain rfl := harg18.eq_unread hf18; obtain rfl := harg19.eq_unread hf19; obtain rfl := harg21.eq_unread hf21
  sl_exec
  sl_step
  iapply Hk
  isplitl [H14]
  · iexists _; isplitr; rotate_left
    · iexact H14
    ipureintro
    exact harg14.read_unread _
  isplitl [H18]
  · iexists _; isplitr; rotate_left
    · iexact H18
    ipureintro
    exact harg18.read_unread _
  isplitl [H19]
  · iexists _; isplitr; rotate_left
    · iexact H19
    ipureintro
    exact harg19.read_unread _
  isplitl [H21]
  · iexists _; isplitr; rotate_left
    · iexact H21
    ipureintro
    exact harg21.read_unread _
  iexists _; isplitr; rotate_left
  · iexact H9
  ipureintro
  rw [View.read_writes_full]; repeat rw [Memref.IsWhole.readAt_full_unread]
  rw [View.readAt_unit _ _ _ (off11_eq i) (dw_inb i hc4), harg19.read_unread]
  exact congr (congrArg (k0_pay6 _ dyq) (harg14.readAt_cell xs 0 _ _ _)) (harg18.readAt_cell dys 0 _ _ _)

end Cert.KernelIdeal.Hand

end
-- ==== Proof.KI.RunLast.lean ====
/-
  The last point of the grid.
-/
module

public import proofs.«01_k».proof.Proof.KI.Spec
public import proofs.«01_k».proof.Proof.Reads
public import proofs.«01_k».proof.Proof.Gen.KernelIdeal.Skeleton

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The last point: the last block of the weights' gradient, and the three histories moved by one word, the greatest
    magnitude met last. -/
theorem run_last (c : Dev nD) (i : grid0.Coords)
    (arg1 : Memref sig .tc .smem S16 .f32) (harg1 : arg1.IsWhole)
    (arg2 : Memref sig .tc .smem S16 .f32) (harg2 : arg2.IsWhole)
    (arg3 : Memref sig .tc .smem S16 .f32) (harg3 : arg3.IsWhole)
    (arg4 : Memref sig .tc .vmem S512x2048 .bf16) (harg4 : arg4.IsWhole)
    (arg5 : Memref sig .tc .vmem S256x2304 .f32) (harg5 : arg5.IsWhole)
    (arg6 : Memref sig .tc .vmem S512x2304 .bf16) (harg6 : arg6.IsWhole)
    (arg7 : Memref sig .tc .vmem S64x8x2304 .bf16) (harg7 : arg7.IsWhole)
    (arg8 : Memref sig .tc .vmem S64x8x2048 .bf16) (harg8 : arg8.IsWhole)
    (arg9 : Memref sig .tc .vmem S256x2304 .f32) (harg9 : arg9.IsWhole)
    (arg10 : Memref sig .tc .smem S16 .f32) (harg10 : arg10.IsWhole)
    (arg11 : Memref sig .tc .smem S16 .f32) (harg11 : arg11.IsWhole)
    (arg12 : Memref sig .tc .smem S16 .f32) (harg12 : arg12.IsWhole)
    (arg13 : Memref sig .tc .vmem S512x2048 .fp8e4m3) (harg13 : arg13.IsWhole)
    (arg14 : Memref sig .tc .smem S1 .f32) (harg14 : arg14.IsWhole)
    (arg15 : Memref sig .tc .vmem S256x2304 .fp8e4m3) (harg15 : arg15.IsWhole)
    (arg16 : Memref sig .tc .smem S1 .f32) (harg16 : arg16.IsWhole)
    (arg17 : Memref sig .tc .vmem S512x2304 .fp8e5m2) (harg17 : arg17.IsWhole)
    (arg18 : Memref sig .tc .smem S1 .f32) (harg18 : arg18.IsWhole)
    (arg19 : Memref sig .tc .vmem S8x4096x256 .fp8e4m3) (harg19 : arg19.IsWhole)
    (arg20 : Memref sig .tc .vmem S2048x2304 .fp8e4m3) (harg20 : arg20.IsWhole)
    (arg21 : Memref sig .tc .vmem S4096x2304 .fp8e5m2) (harg21 : arg21.IsWhole)
    (arg22 : Memref sig .tc .vmem S16x2048 .bf16) (harg22 : arg22.IsWhole)
    (arg23 : Memref sig .tc .vmem S8x2304 .f32) (harg23 : arg23.IsWhole)
    (arg24 : Memref sig .tc .vmem S16x2304 .bf16) (harg24 : arg24.IsWhole)
    (arg25 : Memref sig .tc .smem S3 .f32) (harg25 : arg25.IsWhole)
    (hc1 : ¬ k0_cond1 i = 1#1) (hc2 : ¬ k0_cond2 i = 1#1) (hc3 : ¬ k0_cond3 i = 1#1) (hc4 : k0_cond4 i = 1#1) (hc5 : k0_cond5 i = 1#1)
    (h1 : Vec F S16 .f32)
    (h2 : Vec F S16 .f32)
    (h3 : Vec F S16 .f32)
    (xs : Vec F S1 .f32)
    (dys : Vec F S1 .f32)
    (xq : Vec F S8x4096x256 .fp8e4m3)
    (dyq : Vec F S4096x2304 .fp8e5m2)
    (ax : Vec F S16x2048 .bf16)
    (aw : Vec F S8x2304 .f32)
    (ady : Vec F S16x2304 .bf16)
    (E : Set ℕ) (K : PUnit → sProp 𝕄) :
    iprop(owns (c : Thread nD τ) arg1 fullShare h1
            ∗ owns (c : Thread nD τ) arg2 fullShare h2
            ∗ owns (c : Thread nD τ) arg3 fullShare h3
            ∗ owns (c : Thread nD τ) arg14 fullShare xs
            ∗ owns (c : Thread nD τ) arg18 fullShare dys
            ∗ owns (c : Thread nD τ) arg19 fullShare xq
            ∗ owns (c : Thread nD τ) arg21 fullShare dyq
            ∗ owns (c : Thread nD τ) arg22 fullShare ax
            ∗ owns (c : Thread nD τ) arg23 fullShare aw
            ∗ owns (c : Thread nD τ) arg24 fullShare ady
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (iprop(owns (c : Thread nD τ) arg1 fullShare h1
            ∗ owns (c : Thread nD τ) arg2 fullShare h2
            ∗ owns (c : Thread nD τ) arg3 fullShare h3
            ∗ owns (c : Thread nD τ) arg14 fullShare xs
            ∗ owns (c : Thread nD τ) arg18 fullShare dys
            ∗ owns (c : Thread nD τ) arg19 fullShare xq
            ∗ owns (c : Thread nD τ) arg21 fullShare dyq
            ∗ owns (c : Thread nD τ) arg22 fullShare ax
            ∗ owns (c : Thread nD τ) arg23 fullShare aw
            ∗ owns (c : Thread nD τ) arg24 fullShare ady
            ∗ owns (c : Thread nD τ) arg9 fullShare (k0_pay6 (VecWindow.window xq ![dwPlane i, 0, 0] S1x4096x256.size (dw_inb i hc4)) dyq (cell xs 0) (cell dys 0))
            ∗ owns (c : Thread nD τ) arg10 fullShare (shift h1 (k0_pay55 ax))
            ∗ owns (c : Thread nD τ) arg11 fullShare (shift h2 (k0_pay56 aw))
            ∗ owns (c : Thread nD τ) arg12 fullShare (shift h3 (k0_pay58 (k0_pay57 ady)))) -∗ K ⟨⟩))
      ⊢ wp frame (wpE (defs₀ (F := F)) Variants.none c none) E (cc0_fp8_linear_fwd_bwd i
          arg1 harg1 arg2 harg2 arg3 harg3 arg4 harg4 arg5 harg5 arg6 harg6 arg7 harg7 arg8 harg8 arg9 harg9
          arg10 harg10 arg11 harg11 arg12 harg12 arg13 harg13 arg14 harg14 arg15 harg15 arg16 harg16 arg17 harg17
          arg18 harg18 arg19 harg19 arg20 harg20 arg21 harg21 arg22 harg22 arg23 harg23 arg24 harg24 arg25 harg25) K := by
  simp only [cc0_fp8_linear_fwd_bwd_eq_skeleton]; unfold cc0_fp8_linear_fwd_bwd_skel
  simp only [k0_part15_eq_skeleton, k0_part16_eq_skeleton, k0_part17_eq_skeleton, k0_part18_eq_skeleton]
  unfold owns
  iintro ⟨⟨%f1, %hf1, H1⟩, ⟨%f2, %hf2, H2⟩, ⟨%f3, %hf3, H3⟩, ⟨%f14, %hf14, H14⟩, ⟨%f18, %hf18, H18⟩, ⟨%f19, %hf19, H19⟩, ⟨%f21, %hf21, H21⟩, ⟨%f22, %hf22, H22⟩, ⟨%f23, %hf23, H23⟩, ⟨%f24, %hf24, H24⟩, ⟨%d9, %f9, -, H9⟩, ⟨%d10, %f10, -, H10⟩, ⟨%d11, %f11, -, H11⟩, ⟨%d12, %f12, -, H12⟩, Hk⟩
  obtain rfl := harg1.eq_unread hf1; obtain rfl := harg2.eq_unread hf2; obtain rfl := harg3.eq_unread hf3; obtain rfl := harg14.eq_unread hf14; obtain rfl := harg18.eq_unread hf18; obtain rfl := harg19.eq_unread hf19; obtain rfl := harg21.eq_unread hf21; obtain rfl := harg22.eq_unread hf22; obtain rfl := harg23.eq_unread hf23; obtain rfl := harg24.eq_unread hf24
  sl_exec
  sl_step
  iapply Hk
  isplitl [H1]
  · iexists _; isplitr; rotate_left
    · iexact H1
    ipureintro
    exact harg1.read_unread _
  isplitl [H2]
  · iexists _; isplitr; rotate_left
    · iexact H2
    ipureintro
    exact harg2.read_unread _
  isplitl [H3]
  · iexists _; isplitr; rotate_left
    · iexact H3
    ipureintro
    exact harg3.read_unread _
  isplitl [H14]
  · iexists _; isplitr; rotate_left
    · iexact H14
    ipureintro
    exact harg14.read_unread _
  isplitl [H18]
  · iexists _; isplitr; rotate_left
    · iexact H18
    ipureintro
    exact harg18.read_unread _
  isplitl [H19]
  · iexists _; isplitr; rotate_left
    · iexact H19
    ipureintro
    exact harg19.read_unread _
  isplitl [H21]
  · iexists _; isplitr; rotate_left
    · iexact H21
    ipureintro
    exact harg21.read_unread _
  isplitl [H22]
  · iexists _; isplitr; rotate_left
    · iexact H22
    ipureintro
    exact harg22.read_unread _
  isplitl [H23]
  · iexists _; isplitr; rotate_left
    · iexact H23
    ipureintro
    exact harg23.read_unread _
  isplitl [H24]
  · iexists _; isplitr; rotate_left
    · iexact H24
    ipureintro
    exact harg24.read_unread _
  isplitl [H9]
  · iexists _; isplitr; rotate_left
    · iexact H9
    ipureintro
    rw [View.read_writes_full]; repeat rw [Memref.IsWhole.readAt_full_unread]
    rw [View.readAt_unit _ _ _ (off11_eq i) (dw_inb i hc4), harg19.read_unread]
    exact congr (congrArg (k0_pay6 _ dyq) (harg14.readAt_cell xs 0 _ _ _)) (harg18.readAt_cell dys 0 _ _ _)
  isplitl [H10]
  · iexists _; isplitr; rotate_left
    · iexact H10
    ipureintro
    exact View.read_words16 _ _ (shift h1 _) _ _ _ _ _ _ _ _ _ _ _ _ _ _ _ _
        (harg1.readAt_cell h1 1 (by decide) _ _) (harg1.readAt_cell h1 2 (by decide) _ _)
        (harg1.readAt_cell h1 3 (by decide) _ _) (harg1.readAt_cell h1 4 (by decide) _ _)
        (harg1.readAt_cell h1 5 (by decide) _ _) (harg1.readAt_cell h1 6 (by decide) _ _)
        (harg1.readAt_cell h1 7 (by decide) _ _) (harg1.readAt_cell h1 8 (by decide) _ _)
        (harg1.readAt_cell h1 9 (by decide) _ _) (harg1.readAt_cell h1 10 (by decide) _ _)
        (harg1.readAt_cell h1 11 (by decide) _ _) (harg1.readAt_cell h1 12 (by decide) _ _)
        (harg1.readAt_cell h1 13 (by decide) _ _) (harg1.readAt_cell h1 14 (by decide) _ _)
        (harg1.readAt_cell h1 15 (by decide) _ _)
        ((congrArg k0_pay55 (harg22.readAt_full_unread ax _)).trans (cell_shift_last _ _))
  isplitl [H11]
  · iexists _; isplitr; rotate_left
    · iexact H11
    ipureintro
    exact View.read_words16 _ _ (shift h2 _) _ _ _ _ _ _ _ _ _ _ _ _ _ _ _ _
        (harg2.readAt_cell h2 1 (by decide) _ _) (harg2.readAt_cell h2 2 (by decide) _ _)
        (harg2.readAt_cell h2 3 (by decide) _ _) (harg2.readAt_cell h2 4 (by decide) _ _)
        (harg2.readAt_cell h2 5 (by decide) _ _) (harg2.readAt_cell h2 6 (by decide) _ _)
        (harg2.readAt_cell h2 7 (by decide) _ _) (harg2.readAt_cell h2 8 (by decide) _ _)
        (harg2.readAt_cell h2 9 (by decide) _ _) (harg2.readAt_cell h2 10 (by decide) _ _)
        (harg2.readAt_cell h2 11 (by decide) _ _) (harg2.readAt_cell h2 12 (by decide) _ _)
        (harg2.readAt_cell h2 13 (by decide) _ _) (harg2.readAt_cell h2 14 (by decide) _ _)
        (harg2.readAt_cell h2 15 (by decide) _ _)
        ((congrArg k0_pay56 (harg23.readAt_full_unread aw _)).trans (cell_shift_last _ _))
  iexists _; isplitr; rotate_left
  · iexact H12
  ipureintro
  exact View.read_words16 _ _ (shift h3 _) _ _ _ _ _ _ _ _ _ _ _ _ _ _ _ _
      (harg3.readAt_cell h3 1 (by decide) _ _) (harg3.readAt_cell h3 2 (by decide) _ _)
      (harg3.readAt_cell h3 3 (by decide) _ _) (harg3.readAt_cell h3 4 (by decide) _ _)
      (harg3.readAt_cell h3 5 (by decide) _ _) (harg3.readAt_cell h3 6 (by decide) _ _)
      (harg3.readAt_cell h3 7 (by decide) _ _) (harg3.readAt_cell h3 8 (by decide) _ _)
      (harg3.readAt_cell h3 9 (by decide) _ _) (harg3.readAt_cell h3 10 (by decide) _ _)
      (harg3.readAt_cell h3 11 (by decide) _ _) (harg3.readAt_cell h3 12 (by decide) _ _)
      (harg3.readAt_cell h3 13 (by decide) _ _) (harg3.readAt_cell h3 14 (by decide) _ _)
      (harg3.readAt_cell h3 15 (by decide) _ _)
      ((congrArg k0_pay58 (congrArg k0_pay57 (harg24.readAt_full_unread ady _))).trans (cell_shift_last _ _))

end Cert.KernelIdeal.Hand

end
-- ==== Proof.KI.BodyDw.lean ====
/-
  The body at a point of the weight gradient's phase, and at the last point.
-/
module

public import proofs.«01_k».proof.Proof.KI.Body
public import proofs.«01_k».proof.Proof.KI.RunDw
public import proofs.«01_k».proof.Proof.KI.RunLast

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- A point of the weight gradient's phase. -/
theorem body_dw (c : Dev nD) (t : Fin cfg0.N) (h16 : 16 ≤ t.val) (h23 : t.val < 23) :
    bodyPre m c t ⊢ wp frame (wpE (defs₀ (F := F)) Variants.none c none) Set.univ (bodyAt0 t) (fun _ => bodyPost m c t) := by
  have ht : t.val < 24 := t.isLt
  have h1 : 1 ≤ t.val := by omega
  have h8 : 8 ≤ t.val := by omega
  unfold bodyPre bodyPost bodyAt0
  simp only [before0_0, before0_1, before0_2, before0_3, before0_4, before0_5, before0_13 m c t h1, before0_15 m c t h1, before0_17 m c t h1, before0_14 m c t h8,
    before0_6 m c t h16, before0_7 m c t h16, before0_12 m c t h16, before0_16 m c t h16, after0_13, after0_15, after0_17]
  rw [show (dats m 0 c).Φ t.castSucc = scr m c t.val from rfl, show (dats m 0 c).Φ t.succ = scr m c (t.val + 1) from rfl,
    show (dats m 0 c).owesAt () t.succ = (dats m 0 c).owesAt () t.castSucc from rfl]
  unfold scr
  iintro ⟨⟨%xq, %wq, %dyq, %ax, %aw, %ady, %inv, %hI, S0, S1, S2, S3, S4, S5, S6, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  obtain rfl := hI.xq_eq h16
  obtain rfl := hI.dyq_eq h16
  iapply (run_dw c (grid0.coords t) _ _ _ _ _ _ _ _ _ _ _ _ _ _ _ _ _ _ _ _ _ _ _ _ _ _ _ _ _ _ _ _ _ _ _ _ _ _ _ _ _ _ _ _ _ _ _ _ _ _
    (fun h => by have := (cond1_iff t).1 h; omega) (fun h => by have := (cond2_iff t).1 h; omega) (fun h => by have := (cond3_iff t).1 h; omega) ((cond4_iff t).2 (by omega)) (fun h => by have := (cond5_iff t).1 h; omega)
    (fun _ => xScale (H1 m c)) (fun _ => dyScale (H3 m c)) (allX m c) (allDy m c) Set.univ _)
  isplitl [H13]; · iexact H13
  isplitl [H17]; · iexact H17
  isplitl [S0]; · iexact S0
  isplitl [S2]; · iexact S2
  isplitl [H8]; · iexists _; iexact H8
  iintro ⟨H13, H17, S0, S2, H8⟩
  rw [window_plane _ t h16 ((cond4_iff t).2 h16)]
  isplitl [S0 S1 S2 S3 S4 S5 S6 Hp]
  · iexists _; iexists _; iexists _; iexists _; iexists _; iexists _; iexists _
    isplitr; · ipureintro; exact hI.late h16
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Hp
  isplitl [Ho]; · iexact Ho
  isplitl [H0]; · iapply leaves_store (m := m) (c := c) (t := t) 0 rfl (after0_0 m c t); iexact H0
  isplitl [H1]; · iapply leaves_store (m := m) (c := c) (t := t) 1 rfl (after0_1 m c t); iexact H1
  isplitl [H2]; · iapply leaves_store (m := m) (c := c) (t := t) 2 rfl (after0_2 m c t); iexact H2
  isplitl [H3]; · iapply leaves_store (m := m) (c := c) (t := t) 3 rfl (after0_3 m c t); iexact H3
  isplitl [H4]; · iapply leaves_store (m := m) (c := c) (t := t) 4 rfl (after0_4 m c t); iexact H4
  isplitl [H5]; · iapply leaves_store (m := m) (c := c) (t := t) 5 rfl (after0_5 m c t); iexact H5
  isplitl [H6]; · iapply leaves_same (m := m) (c := c) (t := t) 6 (before0_6 m c t h16) rfl; iexact H6
  isplitl [H7]; · iapply leaves_same (m := m) (c := c) (t := t) 7 (before0_7 m c t h16) rfl; iexact H7
  isplitl [H8]; · iapply leaves_store (m := m) (c := c) (t := t) 8 ((idle_dw t).trans (by rw [decide_eq_true (by omega)]; rfl)) (after0_8 m c t); iexact H8
  isplitl [H9]; · iapply leaves_keep (m := m) (c := c) (t := t) 9 ((idle_last t).trans (by rw [decide_eq_false (by omega)]; rfl)) ((flush9 t).trans (decide_eq_false (by omega))) _; iexact H9
  isplitl [H10]; · iapply leaves_keep (m := m) (c := c) (t := t) 10 ((idle_last t).trans (by rw [decide_eq_false (by omega)]; rfl)) ((flush10 t).trans (decide_eq_false (by omega))) _; iexact H10
  isplitl [H11]; · iapply leaves_keep (m := m) (c := c) (t := t) 11 ((idle_last t).trans (by rw [decide_eq_false (by omega)]; rfl)) ((flush11 t).trans (decide_eq_false (by omega))) _; iexact H11
  isplitl [H12]; · iapply leaves_same (m := m) (c := c) (t := t) 12 (before0_12 m c t h16) rfl; iexact H12
  isplitl [H13]; · iapply leaves_same (m := m) (c := c) (t := t) 13 (before0_13 m c t h1) (after0_13 m c t); iexact H13
  isplitl [H14]; · iapply leaves_same (m := m) (c := c) (t := t) 14 (before0_14 m c t h8) rfl; iexact H14
  isplitl [H15]; · iapply leaves_same (m := m) (c := c) (t := t) 15 (before0_15 m c t h1) (after0_15 m c t); iexact H15
  isplitl [H16]; · iapply leaves_same (m := m) (c := c) (t := t) 16 (before0_16 m c t h16) rfl; iexact H16
  iapply leaves_same (m := m) (c := c) (t := t) 17 (before0_17 m c t h1) (after0_17 m c t); iexact H17

set_option maxHeartbeats 1000000 in
/-- The last point. -/
theorem body_last (c : Dev nD) (t : Fin cfg0.N) (h23 : t.val = 23) :
    bodyPre m c t ⊢ wp frame (wpE (defs₀ (F := F)) Variants.none c none) Set.univ (bodyAt0 t) (fun _ => bodyPost m c t) := by
  have ht : t.val < 24 := t.isLt
  have h1 : 1 ≤ t.val := by omega
  have h8 : 8 ≤ t.val := by omega
  have h16 : 16 ≤ t.val := by omega
  unfold bodyPre bodyPost bodyAt0
  simp only [before0_0, before0_1, before0_2, before0_3, before0_4, before0_5, before0_13 m c t h1, before0_15 m c t h1, before0_17 m c t h1, before0_14 m c t h8,
    before0_6 m c t h16, before0_7 m c t h16, before0_12 m c t h16, before0_16 m c t h16, after0_13, after0_15, after0_17, iblk0_const, iblk1_const, iblk2_const]
  rw [show (dats m 0 c).Φ t.castSucc = scr m c t.val from rfl, show (dats m 0 c).Φ t.succ = scr m c (t.val + 1) from rfl,
    show (dats m 0 c).owesAt () t.succ = (dats m 0 c).owesAt () t.castSucc from rfl]
  unfold scr
  iintro ⟨⟨%xq, %wq, %dyq, %ax, %aw, %ady, %inv, %hI, S0, S1, S2, S3, S4, S5, S6, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  obtain rfl := hI.xq_eq h16
  obtain rfl := hI.dyq_eq h16
  obtain rfl : ax = maxX m c 8 := (hI.hax h1).trans (by rw [show min (t.val - 8) 8 = 8 by omega])
  obtain rfl : aw = maxW m c 8 := (hI.haw h1).trans (by rw [show min t.val 8 = 8 by omega])
  obtain rfl : ady = maxDy m c 8 := (hI.hady h1).trans (by rw [show min (t.val - 8) 8 = 8 by omega])
  iapply (run_last c (grid0.coords t) _ _ _ _ _ _ _ _ _ _ _ _ _ _ _ _ _ _ _ _ _ _ _ _ _ _ _ _ _ _ _ _ _ _ _ _ _ _ _ _ _ _ _ _ _ _ _ _ _ _
    (fun h => by have := (cond1_iff t).1 h; omega) (fun h => by have := (cond2_iff t).1 h; omega) (fun h => by have := (cond3_iff t).1 h; omega) ((cond4_iff t).2 (by omega)) ((cond5_iff t).2 (by omega))
    (H1 m c) (H2 m c) (H3 m c) (fun _ => xScale (H1 m c)) (fun _ => dyScale (H3 m c)) (allX m c) (allDy m c)
    (maxX m c 8) (maxW m c 8) (maxDy m c 8) Set.univ _)
  isplitl [H0]; · iexact H0
  isplitl [H1]; · iexact H1
  isplitl [H2]; · iexact H2
  isplitl [H13]; · iexact H13
  isplitl [H17]; · iexact H17
  isplitl [S0]; · iexact S0
  isplitl [S2]; · iexact S2
  isplitl [S3]; · iexact S3
  isplitl [S4]; · iexact S4
  isplitl [S5]; · iexact S5
  isplitl [H8]; · iexists _; iexact H8
  isplitl [H9]; · iexists _; iexact H9
  isplitl [H10]; · iexists _; iexact H10
  isplitl [H11]; · iexists _; iexact H11
  iintro ⟨H0, H1, H2, H13, H17, S0, S2, S3, S4, S5, H8, H9, H10, H11⟩
  rw [window_plane _ t h16 ((cond4_iff t).2 h16)]
  isplitl [S0 S1 S2 S3 S4 S5 S6 Hp]
  · iexists _; iexists _; iexists _; iexists _; iexists _; iexists _; iexists _
    isplitr; · ipureintro; exact hI.late h16
    isplitl [S0]; · iexact S0
    isplitl [S1]; · iexact S1
    isplitl [S2]; · iexact S2
    isplitl [S3]; · iexact S3
    isplitl [S4]; · iexact S4
    isplitl [S5]; · iexact S5
    isplitl [S6]; · iexact S6
    iexact Hp
  isplitl [Ho]; · iexact Ho
  isplitl [H0]; · iapply leaves_store (m := m) (c := c) (t := t) 0 rfl ((after0_0 m c t).trans (iblk0_const t)); iexact H0
  isplitl [H1]; · iapply leaves_store (m := m) (c := c) (t := t) 1 rfl ((after0_1 m c t).trans (iblk1_const t)); iexact H1
  isplitl [H2]; · iapply leaves_store (m := m) (c := c) (t := t) 2 rfl ((after0_2 m c t).trans (iblk2_const t)); iexact H2
  isplitl [H3]; · iapply leaves_store (m := m) (c := c) (t := t) 3 rfl (after0_3 m c t); iexact H3
  isplitl [H4]; · iapply leaves_store (m := m) (c := c) (t := t) 4 rfl (after0_4 m c t); iexact H4
  isplitl [H5]; · iapply leaves_store (m := m) (c := c) (t := t) 5 rfl (after0_5 m c t); iexact H5
  isplitl [H6]; · iapply leaves_same (m := m) (c := c) (t := t) 6 (before0_6 m c t h16) rfl; iexact H6
  isplitl [H7]; · iapply leaves_same (m := m) (c := c) (t := t) 7 (before0_7 m c t h16) rfl; iexact H7
  isplitl [H8]; · iapply leaves_store (m := m) (c := c) (t := t) 8 ((idle_dw t).trans (by rw [decide_eq_true (by omega)]; rfl)) (after0_8 m c t); iexact H8
  isplitl [H9]; · iapply leaves_store (m := m) (c := c) (t := t) 9 ((idle_last t).trans (by rw [decide_eq_true (by omega)]; rfl)) (after0_9 m c t); iexact H9
  isplitl [H10]; · iapply leaves_store (m := m) (c := c) (t := t) 10 ((idle_last t).trans (by rw [decide_eq_true (by omega)]; rfl)) (after0_10 m c t); iexact H10
  isplitl [H11]; · iapply leaves_store (m := m) (c := c) (t := t) 11 ((idle_last t).trans (by rw [decide_eq_true (by omega)]; rfl)) (after0_11 m c t); iexact H11
  isplitl [H12]; · iapply leaves_same (m := m) (c := c) (t := t) 12 (before0_12 m c t h16) rfl; iexact H12
  isplitl [H13]; · iapply leaves_same (m := m) (c := c) (t := t) 13 (before0_13 m c t h1) (after0_13 m c t); iexact H13
  isplitl [H14]; · iapply leaves_same (m := m) (c := c) (t := t) 14 (before0_14 m c t h8) rfl; iexact H14
  isplitl [H15]; · iapply leaves_same (m := m) (c := c) (t := t) 15 (before0_15 m c t h1) (after0_15 m c t); iexact H15
  isplitl [H16]; · iapply leaves_same (m := m) (c := c) (t := t) 16 (before0_16 m c t h16) rfl; iexact H16
  iapply leaves_same (m := m) (c := c) (t := t) 17 (before0_17 m c t h1) (after0_17 m c t); iexact H17

end Cert.KernelIdeal.Hand

end
-- ==== Proof.KI.Run.lean ====
/-
  The kernel's run: the body's obligation at every point, the launch, and the frame.
-/
module

public import proofs.«01_k».proof.Proof.KI.BodyToken
public import proofs.«01_k».proof.Proof.KI.BodyDw
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body at any point. -/
theorem sound_body (c : Dev nD) (t : Fin cfg0.N) :
    bodyPre m c t ⊢ wp frame (wpE (defs₀ (F := F)) Variants.none c none) Set.univ (bodyAt0 t) (fun _ => bodyPost m c t) := by
  have ht : t.val < 24 := t.isLt
  by_cases h0 : t.val = 0
  · exact body_first m c t h0
  by_cases h8 : t.val < 8
  · exact body_weight m c t (by omega) h8
  by_cases h16 : t.val < 16
  · exact body_token m c t (by omega) h16
  by_cases h23 : t.val < 23
  · exact body_dw m c t (by omega) h23
  · exact body_last m c t (by omega)

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The scratch buffers at any contents are what the first point expects, -/
theorem scr_in (c : Dev nD) : (Pipeline.ΦA spec0 c : sProp 𝕄) ⊢ (dats m 0 c).Φ 0 := by
  rw [show (dats m 0 c).Φ 0 = scr m c 0 from rfl]
  unfold Pipeline.ΦA scr
  rw [scopedRest0_eq]
  iintro ⟨⟨⟨%f0, S0⟩, ⟨%f1, S1⟩, ⟨%f2, S2⟩, ⟨%f3, S3⟩, ⟨%f4, S4⟩, ⟨%f5, S5⟩, ⟨%f6, S6⟩⟩, Hp⟩
  iexists f0; iexists f1; iexists f2; iexists f3; iexists f4; iexists f5; iexists f6
  isplitr; · ipureintro; exact Inv.init
  simp only [owns_whole_eq]
  isplitl [S0]
  · iexists f0; isplitr; · ipureintro; rfl
    iexact S0
  isplitl [S1]
  · iexists f1; isplitr; · ipureintro; rfl
    iexact S1
  isplitl [S2]
  · iexists f2; isplitr; · ipureintro; rfl
    iexact S2
  isplitl [S3]
  · iexists f3; isplitr; · ipureintro; rfl
    iexact S3
  isplitl [S4]
  · iexists f4; isplitr; · ipureintro; rfl
    iexact S4
  isplitl [S5]
  · iexists f5; isplitr; · ipureintro; rfl
    iexact S5
  isplitl [S6]
  · iexists f6; isplitr; · ipureintro; rfl
    iexact S6
  iexact Hp

/-- and what the last one leaves. -/
theorem scr_out (c : Dev nD) : (dats m 0 c).Φ (Fin.last cfg0.N) ⊢ (Pipeline.ΦA spec0 c : sProp 𝕄) := by
  rw [show (dats m 0 c).Φ (Fin.last cfg0.N) = scr m c 24 from rfl]
  unfold Pipeline.ΦA scr
  rw [scopedRest0_eq]
  simp only [owns_whole_eq]
  iintro ⟨%xq, %wq, %dyq, %ax, %aw, %ady, %inv, -, ⟨%g0, -, S0⟩, ⟨%g1, -, S1⟩, ⟨%g2, -, S2⟩, ⟨%g3, -, S3⟩, ⟨%g4, -, S4⟩, ⟨%g5, -, S5⟩, ⟨%g6, -, S6⟩, Hp⟩
  isplitl [S0 S1 S2 S3 S4 S5 S6]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  iexact Hp

set_option backward.isDefEq.respectTransparency.types false in
/-- The launch: every array at what the proof data says, and every semaphore at zero, at every final state. -/
theorem run_main_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := scr_in m) (hout := scr_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Hand

end
-- ==== Proof.Same.lean ====
/-
  The two printed forms of the kernel are one program: the idealized one has no operation rewritten, so its definitions
  unfold to the same terms as the original's.
-/
module

public import proofs.«01_k».proof.KernelIdeal
public import proofs.«01_k».proof.Kernel

@[expose] public section

set_option maxRecDepth 65536
set_option maxHeartbeats 8000000

noncomputable section

namespace Cert.Same

open Idealize.ShloMosaic Idealize.ShloMosaic.TcCoe

variable {F : FTy → Type} [FloatOps F] [hI : Cert.KernelIdeal.Facts] [hK : Cert.Kernel.Facts]

theorem main_eq : Cert.Kernel.main (F := F) = Cert.KernelIdeal.main (F := F) := rfl

theorem body_eq : @Cert.Kernel.cc0_fp8_linear_fwd_bwd F _ _ = @Cert.KernelIdeal.cc0_fp8_linear_fwd_bwd F _ _ := rfl

open Cert.KernelIdeal Cert.KernelIdeal.Facts₀ Cert.KernelIdeal.Facts in
theorem defs₀_eq : Cert.Kernel.defs₀ (F := F) = Cert.KernelIdeal.defs₀ (F := F) := by
  unfold Cert.Kernel.defs₀ Cert.KernelIdeal.defs₀
  refine congrArg Defs.onTc ?_
  funext l p
  match l, p with
  | 0, (t, s) =>
    exact congrArg (fun f : type_of% (@Cert.KernelIdeal.cc0_fp8_linear_fwd_bwd F _ _) => f
      (grid0.coords t) (win0_0.stage (s 0)) (hstage0_0 ((s 0).cast nbuf0_0)) (win0_1.stage (s 1))
      (hstage0_1 ((s 1).cast nbuf0_1)) (win0_2.stage (s 2)) (hstage0_2 ((s 2).cast nbuf0_2)) (win0_3.stage (s 3))
      (hstage0_3 ((s 3).cast nbuf0_3)) (win0_4.stage (s 4)) (hstage0_4 ((s 4).cast nbuf0_4)) (win0_5.stage (s 5))
      (hstage0_5 ((s 5).cast nbuf0_5)) (win0_6.stage (s 6)) (hstage0_6 ((s 6).cast nbuf0_6)) (win0_7.stage (s 7))
      (hstage0_7 ((s 7).cast nbuf0_7)) (win0_8.stage (s 8)) (hstage0_8 ((s 8).cast nbuf0_8)) (win0_9.stage (s 9))
      (hstage0_9 ((s 9).cast nbuf0_9)) (win0_10.stage (s 10)) (hstage0_10 ((s 10).cast nbuf0_10))
      (win0_11.stage (s 11)) (hstage0_11 ((s 11).cast nbuf0_11)) (win0_12.stage (s 12))
      (hstage0_12 ((s 12).cast nbuf0_12)) (win0_13.stage (s 13)) (hstage0_13 ((s 13).cast nbuf0_13))
      (win0_14.stage (s 14)) (hstage0_14 ((s 14).cast nbuf0_14)) (win0_15.stage (s 15))
      (hstage0_15 ((s 15).cast nbuf0_15)) (win0_16.stage (s 16)) (hstage0_16 ((s 16).cast nbuf0_16))
      (win0_17.stage (s 17)) (hstage0_17 ((s 17).cast nbuf0_17)) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      (Memref.whole cc0_scratch5) (Memref.isWhole_whole _) (Memref.whole cc0_scratch6) (Memref.isWhole_whole _)) (body_eq (F := F))

theorem defs_eq : Cert.Kernel.defs (F := F) = Cert.KernelIdeal.defs (F := F) :=
  congrArg (Pipeline.defs (Cert.KernelIdeal.pcfgs (F := F))) (defs₀_eq (F := F))

end Cert.Same

end
-- ==== Proof.KernelFrame.lean ====
/-
  The frame of the kernel as it runs on bits: its program is the idealized one's, whose frame holds for any values.
-/
module

public import proofs.«01_k».proof.Defs
public import proofs.«01_k».proof.Proof.KI.Run
public import proofs.«01_k».proof.Proof.Same
public import proofs.«01_k».proof.Proof.Gen.Kernel.Frame

@[expose] public section

set_option maxRecDepth 16384

noncomputable section

namespace Cert.Proof

open Idealize.ShloMosaic Idealize.ShloMosaic.TcCoe

theorem quiescent_Kernel : Cert.quiescent_Kernel (hKernel := Cert.Kernel.Gen.facts) := by
  intro m ρ _
  rw [Cert.Same.defs_eq (F := Bits), Cert.Same.main_eq (F := Bits)]
  exact Cert.KernelIdeal.Hand.frame (F := Bits) m ρ

end Cert.Proof

end
-- ==== Proof.Math.Expo.lean ====
/-
  Powers of two as float words, and the exponent of a number: the search over words that the kernel runs and the greatest
  exponent that the reference takes come to the same one.
-/
module

public import Idealize.ShloMosaic.PureOps.Ideal
public import Idealize.ShloMosaic.PureOps.Ideal.Laws
public import Idealize.ShloMosaic.Lib.Pointwise
public import Idealize.ShloMosaic.Lib.ValueIdx

@[expose] public section

noncomputable section

namespace Cert.Expo

open Idealize.ShloMosaic Idealize.ShloMosaic.ValueIdx

/-- The float whose exponent field is `n` and whose other bits are zero. -/
def pw (n : ℕ) : EReal := Ideal.ofBits .f32 (BitVec.ofNat 32 n <<< 23)

theorem word_ex (n : ℕ) (h : n ≤ 255) : ((BitVec.ofNat 32 n <<< 23).extractLsb' 23 8).toNat = n := by
  rw [BitVec.extractLsb'_toNat, BitVec.toNat_shiftLeft, BitVec.toNat_ofNat, Nat.shiftRight_eq_div_pow, Nat.shiftLeft_eq]
  omega

theorem word_fr (n : ℕ) (h : n ≤ 255) : ((BitVec.ofNat 32 n <<< 23).extractLsb' 0 23).toNat = 0 := by
  rw [BitVec.extractLsb'_toNat, BitVec.toNat_shiftLeft, BitVec.toNat_ofNat, Nat.shiftRight_eq_div_pow, Nat.shiftLeft_eq]
  omega

theorem word_neg (n : ℕ) (h : n ≤ 255) : ((BitVec.ofNat 32 n <<< 23).extractLsb' 31 1 == 1#1) = false := by
  rw [beq_eq_false_iff_ne]
  intro e
  have := congrArg BitVec.toNat e
  rw [BitVec.extractLsb'_toNat, BitVec.toNat_shiftLeft, BitVec.toNat_ofNat, Nat.shiftRight_eq_div_pow, Nat.shiftLeft_eq] at this
  simp at this
  omega

/-- It is the power of two that the field says, -/
theorem pw_eq (n : ℕ) (h1 : 1 ≤ n) (h : n ≤ 254) : pw n = (((2 : ℝ) ^ ((n : ℤ) - 127) : ℝ) : EReal) := by
  have e1 := word_ex n (by omega)
  have e2 := word_fr n (by omega)
  have e3 := word_neg n (by omega)
  unfold pw
  generalize BitVec.ofNat 32 n <<< 23 = w at e1 e2 e3
  show Ideal.ieee 8 23 w = _
  unfold Ideal.ieee
  simp only [Nat.reduceAdd, e1, e2, e3]
  rw [if_neg (by omega), if_neg (by omega), EReal.coe_eq_coe_iff]
  have : (2 : ℝ) ^ ((n : ℤ) - 127) = 2 ^ (23 : ℤ) * 2 ^ ((n : ℤ) - (2 ^ 7 - 1) - 23) := by
    rw [← zpow_add₀ (by norm_num)]; congr 1; ring
  rw [this]
  norm_num

/-- and infinity at the last field. -/
theorem pw_top : pw 255 = ⊤ := by
  have e1 := word_ex 255 le_rfl
  have e2 := word_fr 255 le_rfl
  have e3 := word_neg 255 le_rfl
  unfold pw
  generalize BitVec.ofNat 32 255 <<< 23 = w at e1 e2 e3
  show Ideal.ieee 8 23 w = _
  unfold Ideal.ieee
  simp only [Nat.reduceAdd, e1, e2, e3]
  simp

theorem pw_mono {a b : ℕ} (h1 : 1 ≤ a) (hab : a ≤ b) (h : b ≤ 255) : pw a ≤ pw b := by
  by_cases hb : b = 255
  · subst hb; rw [pw_top]; exact le_top
  rw [pw_eq a h1 (by omega), pw_eq b (by omega) (by omega), EReal.coe_le_coe_iff]
  exact zpow_le_zpow_right₀ (by norm_num) (by omega)

/-- How many fields' powers a number reaches: as many as a first run of them. -/
theorem exists_reach (v : EReal) : ∃ I ≤ 255, ∀ n, 1 ≤ n → n ≤ 255 → (pw n ≤ v ↔ n ≤ I) := by
  classical
  refine ⟨Nat.findGreatest (fun n => n = 0 ∨ pw n ≤ v) 255, Nat.findGreatest_le _, fun n h1 h => ⟨fun hn => ?_, fun hn => ?_⟩⟩
  · exact Nat.le_findGreatest h (Or.inr hn)
  · have hs := Nat.findGreatest_spec (P := fun n => n = 0 ∨ pw n ≤ v) (n := 255) (Nat.zero_le _) (Or.inl rfl)
    exact (pw_mono h1 hn (Nat.findGreatest_le _)).trans (hs.resolve_left (by omega))

/-- The number of fields' powers that a number reaches. -/
def reach (v : EReal) : ℕ := (exists_reach v).choose
theorem reach_le (v : EReal) : reach v ≤ 255 := (exists_reach v).choose_spec.1
theorem pw_le_iff (v : EReal) (n : ℕ) (h1 : 1 ≤ n) (h : n ≤ 255) : pw n ≤ v ↔ n ≤ reach v := (exists_reach v).choose_spec.2 n h1 h

/-! ## The search over words -/

/-- The exponent `i - 126` as a word. -/
def enc (i : ℕ) : BitVec 32 := BitVec.ofNat 32 i + 4294967170#32

theorem enc_toNat (i : ℕ) : (enc i).toNat = (i + 4294967170) % 4294967296 := by
  unfold enc; rw [BitVec.toNat_add, BitVec.toNat_ofNat, BitVec.toNat_ofNat]; omega

theorem enc_add (i s : ℕ) : enc i + BitVec.ofNat 32 s = enc (i + s) := by
  apply BitVec.eq_of_toNat_eq
  rw [BitVec.toNat_add, enc_toNat, enc_toNat, BitVec.toNat_ofNat]; omega

theorem enc_field (i s : ℕ) (hs : 1 ≤ s) : enc i + BitVec.ofNat 32 (s - 1) + 127#32 = BitVec.ofNat 32 (i + s) := by
  apply BitVec.eq_of_toNat_eq
  rw [BitVec.toNat_add, BitVec.toNat_add, enc_toNat, BitVec.toNat_ofNat, BitVec.toNat_ofNat, BitVec.toNat_ofNat]; omega

theorem enc_field_pos (i : ℕ) : enc i + 127#32 = BitVec.ofNat 32 (i + 1) := by
  apply BitVec.eq_of_toNat_eq
  rw [BitVec.toNat_add, enc_toNat, BitVec.toNat_ofNat, BitVec.toNat_ofNat]; omega

theorem enc_field_neg (i : ℕ) (hi : i ≤ 252) : 0#32 - enc i + 127#32 = BitVec.ofNat 32 (253 - i) := by
  apply BitVec.eq_of_toNat_eq
  rw [BitVec.toNat_add, BitVec.toNat_sub, enc_toNat, BitVec.toNat_ofNat, BitVec.toNat_ofNat, BitVec.toNat_ofNat]; omega

theorem enc_min (i : ℕ) (hi : i ≤ 255) : IntOp.minsi (enc i) 126#32 = enc (min i 252) := by
  have e : (enc i).toInt = (i : ℤ) - 126 := by
    rw [BitVec.toInt_eq_toNat_cond, enc_toNat]; split <;> omega
  unfold IntOp.minsi
  rw [BitVec.slt_eq_decide, e, show (126#32 : BitVec 32).toInt = 126 from rfl]
  by_cases h : i < 252
  · rw [if_pos (by simp; omega), min_eq_left h.le]
  · rw [if_neg (by simp; omega), min_eq_right (by omega)]; rfl

section Step
variable {F : FTy → Type} [FloatOps F] {s : Shape}

/-- The float with the word's bits, shifted to the exponent field. -/
def powV (e : IVec s 32) : FVec F s .f32 := bitcastToFloat .f32 (shli (addi e (broadcast s 127#32)) (broadcast s 23#32))

/-- One step of the search: go on by `b` if the power at `a` past the present exponent is reached. -/
def stepV (v : FVec F s .f32) (a b : BitVec 32) (e : IVec s 32) : IVec s 32 :=
  select (cmpf .ole (powV (addi e (broadcast s a))) v) (addi e (broadcast s b)) e

/-- The eight steps. -/
def searchV (v : FVec F s .f32) : IVec s 32 :=
  stepV v 0#32 1#32 (stepV v 1#32 2#32 (stepV v 3#32 4#32 (stepV v 7#32 8#32 (stepV v 15#32 16#32 (stepV v 31#32 32#32
    (stepV v 63#32 64#32 (stepV v 127#32 128#32 (broadcast s 4294967170#32))))))))

/-- The exponent that the kernel takes for the number `v` of the greatest value `a`. -/
def expoV (a v : FVec F s .f32) : IVec s 32 :=
  select (cmpf .oeq a (broadcast s (Scalar.ofBits .f32 0x00000000#32))) (broadcast s 0#32)
    (select (cmpf .olt v (broadcast s (Scalar.ofBits .f32 0x7F800000#32))) (minsi (searchV v) (broadcast s 126#32)) (broadcast s 0#32))
end Step

section Ideal
variable {s : Shape}

theorem powV_apply (e : IVec s 32) (j : s.Idx) : powV (F := Ideal) e j = Ideal.ofBits .f32 ((e j + 127#32) <<< 23) := rfl

theorem ofBool_eq (p : Prop) [Decidable p] : (BitVec.ofBool (decide p) = 1) ↔ p := by
  by_cases h : p <;> simp [h]

theorem stepV_apply (v : FVec Ideal s .f32) (a b : BitVec 32) (e : IVec s 32) (j : s.Idx) :
    stepV v a b e j = if Ideal.ofBits .f32 ((e j + a + 127#32) <<< 23) ≤ v j then e j + b else e j := by
  show (if BitVec.ofBool (decide (Ideal.ofBits .f32 ((e j + a + 127#32) <<< 23) ≤ v j)) = 1 then e j + b else e j) = _
  simp only [ofBool_eq]

theorem stepV_enc (v : FVec Ideal s .f32) (n : ℕ) (hn : 1 ≤ n) (e : IVec s 32) (j : s.Idx) {i : ℕ} (he : e j = enc i)
    (hi : i ≤ reach (v j)) (hr : reach (v j) < i + 2 * n) (hb : i + n ≤ 255) :
    ∃ i', stepV v (BitVec.ofNat 32 (n - 1)) (BitVec.ofNat 32 n) e j = enc i' ∧ i' ≤ i + n ∧ i' ≤ reach (v j) ∧ reach (v j) < i' + n := by
  rw [stepV_apply, he, enc_field i n hn, enc_add]
  by_cases h : i + n ≤ reach (v j)
  · exact ⟨i + n, if_pos ((pw_le_iff (v j) (i + n) (by omega) hb).2 h), le_rfl, h, by omega⟩
  · exact ⟨i, if_neg fun h' => h ((pw_le_iff (v j) (i + n) (by omega) hb).1 h'), by omega, hi, by omega⟩

theorem searchV_apply (v : FVec Ideal s .f32) (j : s.Idx) : searchV v j = enc (reach (v j)) := by
  have hr := reach_le (v j)
  obtain ⟨i1, e1, b1, l1, u1⟩ := stepV_enc v 128 (by norm_num) (broadcast s 4294967170#32) j (i := 0) rfl (by omega) (by omega) (by omega)
  obtain ⟨i2, e2, b2, l2, u2⟩ := stepV_enc v 64 (by norm_num) _ j e1 l1 (by omega) (by omega)
  obtain ⟨i3, e3, b3, l3, u3⟩ := stepV_enc v 32 (by norm_num) _ j e2 l2 (by omega) (by omega)
  obtain ⟨i4, e4, b4, l4, u4⟩ := stepV_enc v 16 (by norm_num) _ j e3 l3 (by omega) (by omega)
  obtain ⟨i5, e5, b5, l5, u5⟩ := stepV_enc v 8 (by norm_num) _ j e4 l4 (by omega) (by omega)
  obtain ⟨i6, e6, b6, l6, u6⟩ := stepV_enc v 4 (by norm_num) _ j e5 l5 (by omega) (by omega)
  obtain ⟨i7, e7, b7, l7, u7⟩ := stepV_enc v 2 (by norm_num) _ j e6 l6 (by omega) (by omega)
  obtain ⟨i8, e8, b8, l8, u8⟩ := stepV_enc v 1 (by norm_num) _ j e7 l7 (by omega) (by omega)
  have : i8 = reach (v j) := by omega
  exact this ▸ e8

open Classical in
/-- The exponent, as its distance from the least one. -/
def index (a v : EReal) : ℕ := if a = 0 then 126 else if v < ⊤ then min (reach v) 252 else 126

theorem index_le (a v : EReal) : index a v ≤ 252 := by
  unfold index; split_ifs <;> omega

theorem ofBits_inf : Ideal.ofBits .f32 0x7F800000#32 = ⊤ := pw_top

theorem expoV_apply (a v : FVec Ideal s .f32) (j : s.Idx) : expoV a v j = enc (index (a j) (v j)) := by
  show (if BitVec.ofBool (decide (a j = Ideal.ofBits .f32 0x00000000#32)) = 1 then 0#32 else
    (if BitVec.ofBool (decide (v j < Ideal.ofBits .f32 0x7F800000#32)) = 1 then IntOp.minsi (searchV v j) 126#32 else 0#32)) = _
  simp only [ofBool_eq]
  rw [searchV_apply, enc_min _ (reach_le _), ofBits_inf, Ideal.ofBits_zero_f32]
  unfold index
  split_ifs <;> rfl

theorem pow_pos_apply (a v : FVec Ideal s .f32) (j : s.Idx) :
    powV (F := Ideal) (expoV a v) j = (((2 : ℝ) ^ ((index (a j) (v j) : ℤ) - 126) : ℝ) : EReal) := by
  have h := index_le (a j) (v j)
  rw [powV_apply, expoV_apply, enc_field_pos]
  exact (pw_eq _ (by omega) (by omega)).trans (by congr 2; push_cast; ring)

theorem pow_neg_apply (a v : FVec Ideal s .f32) (j : s.Idx) :
    powV (F := Ideal) (subi (broadcast s 0#32) (expoV a v)) j = (((2 : ℝ) ^ (126 - (index (a j) (v j) : ℤ)) : ℝ) : EReal) := by
  have h := index_le (a j) (v j)
  rw [powV_apply, show subi (broadcast s 0#32) (expoV a v) j = 0#32 - expoV a v j from rfl, expoV_apply, enc_field_neg _ h]
  exact (pw_eq _ (by omega) (by omega)).trans (by congr 2; push_cast [Nat.cast_sub (show index (a j) (v j) ≤ 253 by omega)]; ring)

end Ideal

end Cert.Expo

end
-- ==== Proof.KI.Scale.lean ====
/-
  The kernel's scales as powers of two: each is the power at the exponent that the search finds for the greatest word of
  its history.
-/
module

public import proofs.«01_k».proof.Proof.KI.Spec
public import proofs.«01_k».proof.Proof.Math.Expo

@[expose] public section

noncomputable section

namespace Cert.KernelIdeal.Hand

open Cert.KernelIdeal.Gen Cert.Expo
open Idealize.ShloMosaic Idealize.ShloMosaic.TcCoe Idealize.ShloMosaic.ValueIdx

section
variable {F : FTy → Type} [FloatOps F]

/-- The greatest of a history's sixteen words. -/
def top16 (h : Vec F S16 .f32) : F .f32 :=
  of16 (fun v0 v1 v2 v3 v4 v5 v6 v7 v8 v9 v10 v11 v12 v13 v14 v15 =>
    Scalar.maximumf (Scalar.maximumf (Scalar.maximumf (Scalar.maximumf (Scalar.maximumf (Scalar.maximumf (Scalar.maximumf
      (Scalar.maximumf (Scalar.maximumf (Scalar.maximumf (Scalar.maximumf (Scalar.maximumf (Scalar.maximumf (Scalar.maximumf
        (Scalar.maximumf v0 v1) v2) v3) v4) v5) v6) v7) v8) v9) v10) v11) v12) v13) v14) v15) h

/-- That word on every cell, -/
def topV (h : Vec F S16 .f32) : FVec F S8x128 .f32 := broadcast S8x128 (top16 h)
/-- and the size of its product with a format's unit. -/
def unitV (a : FVec F S8x128 .f32) (k : BitVec 32) : FVec F S8x128 .f32 :=
  absf (mulf a (broadcast S8x128 (Scalar.ofBits .f32 k)))

theorem pay7_eq (h : Vec F S16 .f32) : of16 k0_pay7 h = topV h := rfl
theorem pay8_eq (h : Vec F S16 .f32) : of16 k0_pay8 h = unitV (topV h) 0x3B124925#32 := rfl
theorem pay18_eq (h : Vec F S16 .f32) : of16 k0_pay18 h = topV h := rfl
theorem pay19_eq (h : Vec F S16 .f32) : of16 k0_pay19 h = unitV (topV h) 0x3B124925#32 := rfl
theorem pay26_eq (h : Vec F S16 .f32) : of16 k0_pay26 h = topV h := rfl
theorem pay27_eq (a : FVec F S8x128 .f32) : k0_pay27 a = unitV a 0x37924925#32 := rfl

/-- The first half of the search. -/
def half (v : FVec F S8x128 .f32) : IVec S8x128 32 :=
  stepV v 15#32 16#32 (stepV v 31#32 32#32 (stepV v 63#32 64#32 (stepV v 127#32 128#32 (broadcast S8x128 4294967170#32))))

theorem pay11_eq (v : FVec F S8x128 .f32) : k0_pay11 v k0_pay9 k0_pay10 = half v := rfl

theorem pay14_eq (v : FVec F S8x128 .f32) :
    k0_pay14 v (k0_pay11 v k0_pay9 k0_pay10) (k0_pay12 v k0_pay9 k0_pay10) = minsi (searchV v) (broadcast S8x128 126#32) := by
  show _ = minsi (stepV v 0#32 1#32 (stepV v 1#32 2#32 (stepV v 3#32 4#32 (stepV v 7#32 8#32 (half v))))) _
  unfold k0_pay12
  rw [pay11_eq]
  generalize half v = e
  rfl

theorem pay15_eq (a v : FVec F S8x128 .f32) (e : IVec S8x128 32) (he : e = minsi (searchV v) (broadcast S8x128 126#32)) :
    k0_pay15 a (k0_pay13 v) e = expoV a v := by
  subst he; rfl

/-- The upper left cell. -/
def corner (v : FVec F S8x128 .f32) : F .f32 :=
  extractAt ![0, 0] (extractStridedSlice S1x1 ![0, 0] v slices_S8x128_o0_0_S1x1) inpos_S1x1_p0_0

theorem xScale_expo (h : Vec F S16 .f32) :
    xScale h = corner (powV (expoV (topV h) (unitV (topV h) 0x3B124925#32))) := by
  show corner (powV (k0_pay15 (of16 k0_pay7 h) (k0_pay13 (of16 k0_pay8 h)) (xSearch h))) = _
  have e : xSearch h = minsi (searchV (of16 k0_pay8 h)) (broadcast S8x128 126#32) := pay14_eq _
  rw [pay15_eq _ _ _ e, pay7_eq, pay8_eq]

theorem xInv_expo (h : Vec F S16 .f32) :
    xInv h = corner (powV (subi (broadcast S8x128 0#32) (expoV (topV h) (unitV (topV h) 0x3B124925#32)))) := by
  show corner (powV (subi (broadcast S8x128 0#32) (k0_pay15 (of16 k0_pay7 h) (k0_pay13 (of16 k0_pay8 h)) (xSearch h)))) = _
  have e : xSearch h = minsi (searchV (of16 k0_pay8 h)) (broadcast S8x128 126#32) := pay14_eq _
  rw [pay15_eq _ _ _ e, pay7_eq, pay8_eq]

theorem pay20_eq (h : Vec F S16 .f32) :
    of16 k0_pay20 h = stepV (of16 k0_pay19 h) 63#32 64#32 (stepV (of16 k0_pay19 h) 127#32 128#32 (broadcast S8x128 4294967170#32)) := rfl

theorem pay21_eq (v : FVec F S8x128 .f32) (e : IVec S8x128 32) :
    k0_pay21 v e = stepV v 3#32 4#32 (stepV v 7#32 8#32 (stepV v 15#32 16#32 (stepV v 31#32 32#32 e))) := rfl

theorem pay22_eq (a v : FVec F S8x128 .f32) (e : IVec S8x128 32) :
    k0_pay22 a v e = select (cmpf .oeq a (broadcast S8x128 (Scalar.ofBits .f32 0x00000000#32))) (broadcast S8x128 0#32)
      (select (cmpf .olt v (broadcast S8x128 (Scalar.ofBits .f32 0x7F800000#32)))
        (minsi (stepV v 0#32 1#32 (stepV v 1#32 2#32 e)) (broadcast S8x128 126#32)) (broadcast S8x128 0#32)) := rfl

theorem wExpo (h : Vec F S16 .f32) :
    k0_pay22 (of16 k0_pay18 h) (of16 k0_pay19 h) (k0_pay21 (of16 k0_pay19 h) (of16 k0_pay20 h))
      = expoV (topV h) (unitV (topV h) 0x3B124925#32) := by
  rw [pay22_eq, pay20_eq, pay21_eq, pay18_eq, pay19_eq]
  rfl

theorem wScale_expo (h : Vec F S16 .f32) :
    wScale h = corner (powV (expoV (topV h) (unitV (topV h) 0x3B124925#32))) := by
  rw [← wExpo]; rfl

theorem wInv_expo (h : Vec F S16 .f32) :
    wInv h = corner (powV (subi (broadcast S8x128 0#32) (expoV (topV h) (unitV (topV h) 0x3B124925#32)))) := by
  rw [← wExpo]; rfl

theorem pay28_eq (a : FVec F S8x128 .f32) :
    k0_pay28 a = stepV (k0_pay27 a) 31#32 32#32 (stepV (k0_pay27 a) 63#32 64#32 (stepV (k0_pay27 a) 127#32 128#32
      (broadcast S8x128 4294967170#32))) := rfl

theorem pay30_eq (a v : FVec F S8x128 .f32) (e : IVec S8x128 32) (he : k0_pay28 a = e) :
    k0_pay30 v e (k0_pay29 a) = stepV v 1#32 2#32 (stepV v 3#32 4#32 (stepV v 7#32 8#32 (stepV v 15#32 16#32 e))) := by
  unfold k0_pay29
  rw [he]
  rfl

theorem pay32_eq (a v : FVec F S8x128 .f32) (e : IVec S8x128 32) :
    k0_pay32 a v e (shli (addi (addi e (broadcast S8x128 0#32)) (broadcast S8x128 127#32)) (broadcast S8x128 23#32))
      = select (cmpf .oeq a (broadcast S8x128 (Scalar.ofBits .f32 0x00000000#32))) (broadcast S8x128 0#32)
      (select (cmpf .olt v (broadcast S8x128 (Scalar.ofBits .f32 0x7F800000#32)))
        (minsi (stepV v 0#32 1#32 e) (broadcast S8x128 126#32)) (broadcast S8x128 0#32)) := rfl

theorem dyExpo (h : Vec F S16 .f32) :
    k0_pay32 (of16 k0_pay26 h) (k0_pay27 (of16 k0_pay26 h)) (dySearch h) (dyStep h)
      = expoV (topV h) (unitV (topV h) 0x37924925#32) := by
  show k0_pay32 (of16 k0_pay26 h) (k0_pay27 (of16 k0_pay26 h)) (dySearch h)
    (shli (addi (addi (dySearch h) (broadcast S8x128 0#32)) (broadcast S8x128 127#32)) (broadcast S8x128 23#32)) = _
  unfold dySearch
  rw [pay32_eq, pay30_eq _ _ _ rfl, pay28_eq, pay26_eq, pay27_eq]
  rfl

theorem dyScale_expo (h : Vec F S16 .f32) :
    dyScale h = corner (powV (expoV (topV h) (unitV (topV h) 0x37924925#32))) := by
  rw [← dyExpo]; rfl

theorem dyInv_expo (h : Vec F S16 .f32) :
    dyInv h = corner (powV (subi (broadcast S8x128 0#32) (expoV (topV h) (unitV (topV h) 0x37924925#32)))) := by
  rw [← dyExpo]; rfl

end

/-! ## Ideally -/

/-- The exponent of a history's scale, for a format's unit: its distance from the least one. -/
def histIndex (k : BitVec 32) (h : Vec Ideal S16 .f32) : ℕ :=
  index (top16 h) (max (top16 h * Ideal.ofBits .f32 k) (-(top16 h * Ideal.ofBits .f32 k)))

/-- A scale, -/
def histScale (k : BitVec 32) (h : Vec Ideal S16 .f32) : EReal := (((2 : ℝ) ^ ((histIndex k h : ℤ) - 126) : ℝ) : EReal)
/-- and its inverse. -/
def histInv (k : BitVec 32) (h : Vec Ideal S16 .f32) : EReal := (((2 : ℝ) ^ (126 - (histIndex k h : ℤ)) : ℝ) : EReal)

theorem corner_pos (k : BitVec 32) (h : Vec Ideal S16 .f32) :
    corner (F := Ideal) (powV (expoV (topV h) (unitV (topV h) k))) = histScale k h := by
  show powV (F := Ideal) _ _ = _
  rw [pow_pos_apply]; rfl

theorem corner_neg (k : BitVec 32) (h : Vec Ideal S16 .f32) :
    corner (F := Ideal) (powV (subi (broadcast S8x128 0#32) (expoV (topV h) (unitV (topV h) k)))) = histInv k h := by
  show powV (F := Ideal) _ _ = _
  rw [pow_neg_apply]; rfl

theorem xScale_eq (h : Vec Ideal S16 .f32) : xScale h = histScale 0x3B124925#32 h := (xScale_expo h).trans (corner_pos _ h)
theorem xInv_eq (h : Vec Ideal S16 .f32) : xInv h = histInv 0x3B124925#32 h := (xInv_expo h).trans (corner_neg _ h)
theorem wScale_eq (h : Vec Ideal S16 .f32) : wScale h = histScale 0x3B124925#32 h := (wScale_expo h).trans (corner_pos _ h)
theorem wInv_eq (h : Vec Ideal S16 .f32) : wInv h = histInv 0x3B124925#32 h := (wInv_expo h).trans (corner_neg _ h)
theorem dyScale_eq (h : Vec Ideal S16 .f32) : dyScale h = histScale 0x37924925#32 h := (dyScale_expo h).trans (corner_pos _ h)
theorem dyInv_eq (h : Vec Ideal S16 .f32) : dyInv h = histInv 0x37924925#32 h := (dyInv_expo h).trans (corner_neg _ h)

end Cert.KernelIdeal.Hand

end
-- ==== Proof.Math.Spec.lean ====
/-
  What the results are, as functions of arrays of extended reals: the codes of an array at an inverse scale, and the three
  products of codes at a product of scales.
-/
module

public import Idealize.ShloMosaic.PureOps.Ideal
public import Idealize.ShloMosaic.PureOps.Ideal.Laws
public import Idealize.ShloMosaic.Lib.Pointwise
public import Idealize.ShloMosaic.Lib.ValueIdx

@[expose] public section

noncomputable section

namespace Cert.Spec

open Idealize.ShloMosaic

/-- A number's code in the format with greatest 448, -/
def q8 (a inv : EReal) : EReal := min (Ideal.ofBits .f32 0x43E00000#32) (max (Ideal.ofBits .f32 0xC3E00000#32) (a * inv))
/-- and in the format with greatest 57344. -/
def q5 (a inv : EReal) : EReal := min (Ideal.ofBits .f32 0x47600000#32) (max (Ideal.ofBits .f32 0xC7600000#32) (a * inv))

/-- The product of tokens and weights, the rows in groups of eight, -/
def prodY (x : (⟨2, ![4096, 2048]⟩ : Shape).Idx → EReal) (w : (⟨2, ![2048, 2304]⟩ : Shape).Idx → EReal) (s : EReal) :
    (⟨3, ![512, 8, 2304]⟩ : Shape).Idx → EReal := fun j =>
  (∑ k : Fin 2048, x (ValueIdx.ix2 ⟨(j 0).val * 8 + (j 1).val, by
    have h0 : (j 0).val < 512 := (j 0).isLt
    have h1 : (j 1).val < 8 := (j 1).isLt
    omega⟩ k) * w (ValueIdx.ix2 k (j 2))) * s

/-- of gradient and transposed weights, -/
def prodDx (dy : (⟨2, ![4096, 2304]⟩ : Shape).Idx → EReal) (w : (⟨2, ![2048, 2304]⟩ : Shape).Idx → EReal) (s : EReal) :
    (⟨3, ![512, 8, 2048]⟩ : Shape).Idx → EReal := fun j =>
  (∑ k : Fin 2304, dy (ValueIdx.ix2 ⟨(j 0).val * 8 + (j 1).val, by
    have h0 : (j 0).val < 512 := (j 0).isLt
    have h1 : (j 1).val < 8 := (j 1).isLt
    omega⟩ k) * w (ValueIdx.ix2 (j 2) k)) * s

/-- and of transposed tokens and gradient. -/
def prodDw (x : (⟨2, ![4096, 2048]⟩ : Shape).Idx → EReal) (dy : (⟨2, ![4096, 2304]⟩ : Shape).Idx → EReal) (s : EReal) :
    (⟨2, ![2048, 2304]⟩ : Shape).Idx → EReal := fun j =>
  (∑ k : Fin 4096, x (ValueIdx.ix2 k (j 0)) * dy (ValueIdx.ix2 k (j 1))) * s

/-! ## Greatest magnitudes -/

/-- A number's magnitude, -/
def mag (a : EReal) : EReal := max a (-a)
/-- and the greatest of an array. -/
def size {S : Shape} (a : S.Idx → EReal) : EReal := ⨆ i, mag (a i)

theorem mag_nonneg (a : EReal) : 0 ≤ mag a := by
  rcases le_total 0 a with h | h
  · exact h.trans (le_max_left _ _)
  · exact (EReal.neg_nonneg.mpr h).trans (le_max_right _ _)

theorem size_le {S : Shape} (a : S.Idx → EReal) (t : EReal) : size a ≤ t ↔ ∀ i, mag (a i) ≤ t := iSup_le_iff

/-- A history moved by one word, a new word last. -/
def newHist (h : (⟨1, ![16]⟩ : Shape).Idx → EReal) (v : EReal) : (⟨1, ![16]⟩ : Shape).Idx → EReal := fun j =>
  if hj : (j 0).val < 15 then h (ValueIdx.ix1 ⟨1 + (j 0).val, by omega⟩) else v

/-- A greatest value taken tile after tile. -/
theorem runMax_le {R : ℕ} (f : ℕ → EReal) (g : ℕ → Fin R → EReal) (h0 : f 0 = 0)
    (hs : ∀ k, f (k + 1) = max (f k) (Finset.fold max ⊥ (g k) Finset.univ)) (t : EReal) :
    ∀ n, f n ≤ t ↔ 0 ≤ t ∧ ∀ k < n, ∀ r, g k r ≤ t
  | 0 => by rw [h0]; exact ⟨fun h => ⟨h, fun k hk => absurd hk (by omega)⟩, And.left⟩
  | n + 1 => by
    rw [hs, max_le_iff, runMax_le f g h0 hs t n, Finset.fold_max_le]
    constructor
    · rintro ⟨⟨h, hk⟩, -, hr⟩
      refine ⟨h, fun k hk' r => ?_⟩
      rcases Nat.lt_succ_iff_lt_or_eq.mp hk' with h' | rfl
      · exact hk k h' r
      · exact hr r (Finset.mem_univ _)
    · rintro ⟨h, hk⟩
      exact ⟨⟨h, fun k hk' => hk k (by omega)⟩, bot_le, fun r _ => hk n (by omega) r⟩

/-- The greatest of such values over a tile's rows and columns, the tiles covering the array. -/
theorem fold_tiles {S : Shape} {A B R : ℕ} (arr : S.Idx → EReal) (s : (⟨2, ![A, B]⟩ : Shape).Idx → EReal)
    (row : ℕ → Fin R → Fin A → Fin B → EReal) (i₀ : S.Idx)
    (hs : ∀ a b t, s (ValueIdx.ix2 a b) ≤ t ↔ 0 ≤ t ∧ ∀ k < 8, ∀ r, mag (row k r a b) ≤ t)
    (hto : ∀ k < 8, ∀ r a b, ∃ i, row k r a b = arr i) (hof : ∀ i, ∃ k < 8, ∃ r a b, row k r a b = arr i) :
    Finset.fold max ⊥ (fun x : Fin A × Fin B => s (ValueIdx.ix2 x.1 x.2)) Finset.univ = size arr := by
  refine eq_of_forall_ge_iff fun t => ?_
  rw [Finset.fold_max_le, size_le]
  constructor
  · rintro ⟨-, h⟩ i
    obtain ⟨k, hk, r, a, b, e⟩ := hof i
    rw [← e]
    exact ((hs a b t).mp (h (a, b) (Finset.mem_univ _))).2 k hk r
  · intro h
    refine ⟨bot_le, fun x _ => (hs x.1 x.2 t).mpr ⟨(mag_nonneg _).trans (h i₀), fun k hk r => ?_⟩⟩
    obtain ⟨i, e⟩ := hto k hk r x.1 x.2
    rw [e]
    exact h i

end Cert.Spec

end
-- ==== Proof.KI.Tiles.lean ====
/-
  The kernel's tiles as parts of the arrays, and what its code results hold.
-/
module

public import proofs.«01_k».proof.Proof.KI.Dats
public import proofs.«01_k».proof.Proof.KI.Scale
public import proofs.«01_k».proof.Proof.Math.Spec
public import Idealize.ShloMosaic.Lib.Claim
public import Idealize.ShloMosaic.Lib.StableHlo.ReadAt
public import Idealize.ShloMosaic.Lib.Pipeline.ValueKit

@[expose] public section

set_option maxRecDepth 16384

noncomputable section

namespace Cert.KernelIdeal.Hand

open Cert.KernelIdeal.Gen Cert.Spec
open Idealize.ShloMosaic hiding ix1 ix2 ix3
open Idealize.ShloMosaic.TcCoe Idealize.ShloMosaic.ValueIdx

variable (m : (ℓ : Loc nD τ sig) → Buf (Elt Ideal) ℓ) (c : Dev nD)

/-! ## The tiles -/

/-- The tokens by rows, -/
def arrX : Vec Ideal S4096x2048 .bf16 := V m c main_v0
/-- the weights, -/
def arrW : Vec Ideal S2048x2304 .f32 := V m c main_arg1
/-- and the gradient by rows. -/
def arrDy : Vec Ideal S4096x2304 .bf16 := V m c main_v1

theorem index3 : ∀ t : Fin grid0.N, win0_3.index t = ![min (t.val - 8) 7, 0] := by decide +kernel
theorem index4 : ∀ t : Fin grid0.N, win0_4.index t = ![min t.val 7, 0] := by decide +kernel
theorem index5 : ∀ t : Fin grid0.N, win0_5.index t = ![min (t.val - 8) 7, 0] := by decide +kernel

theorem tileX_apply (k : ℕ) (hk : k < 8) (a : Fin 512) (b : Fin 2048) :
    tileX m c k (ix2 a b) = arrX m c (ix2 ⟨512 * k + a.val, by omega⟩ b) := by
  have e : (pt (8 + k)).val = 8 + k := by show min (8 + k) 23 = _; omega
  unfold tileX arrX
  generalize pt (8 + k) = t at e
  have hi := index3 t
  rw [e] at hi
  blk_ext [iblk, hi]
  show _ + a.val = _
  omega

theorem tileW_apply (k : ℕ) (hk : k < 8) (a : Fin 256) (b : Fin 2304) :
    tileW m c k (ix2 a b) = arrW m c (ix2 ⟨256 * k + a.val, by omega⟩ b) := by
  have e : (pt k).val = k := by show min k 23 = _; omega
  unfold tileW arrW
  generalize pt k = t at e
  have hi := index4 t
  rw [e] at hi
  blk_ext [iblk, hi]
  show _ + a.val = _
  omega

theorem tileDy_apply (k : ℕ) (hk : k < 8) (a : Fin 512) (b : Fin 2304) :
    tileDy m c k (ix2 a b) = arrDy m c (ix2 ⟨512 * k + a.val, by omega⟩ b) := by
  have e : (pt (8 + k)).val = 8 + k := by show min (8 + k) 23 = _; omega
  unfold tileDy arrDy
  generalize pt (8 + k) = t at e
  have hi := index5 t
  rw [e] at hi
  blk_ext [iblk, hi]
  show _ + a.val = _
  omega

/-! ## The codes -/

theorem xCode_apply (a : Vec Ideal S512x2048 .bf16) (s : Elt Ideal .f32) (j : S512x2048.Idx) : xCode a s j = q8 (a j) s := by
  unfold xCode k0_pay41 k0_pay37
  pointwise
  rfl

theorem dyCode_apply (a : Vec Ideal S512x2304 .bf16) (s : Elt Ideal .f32) (j : S512x2304.Idx) : dyCode a s j = q5 (a j) s := by
  unfold dyCode k0_pay43 k0_pay42 k0_pay38
  pointwise
  rfl

theorem wCode_apply (a : Vec Ideal S256x2304 .f32) (s : Elt Ideal .f32) (j : S256x2304.Idx) : k0_pay4 a s j = q8 (a j) s := by
  unfold k0_pay4
  pointwise
  rfl

theorem wCode5_apply (a : Vec Ideal S256x2304 .f32) (s : Elt Ideal .f32) (j : S256x2304.Idx) : k0_pay5 a s j = q8 (a j) s := by
  unfold k0_pay5
  rw [shapeCast_self]
  exact wCode_apply a s j

/-- The codes of the tokens, -/
def codesX : S4096x2048.Idx → EReal := fun i => q8 (arrX m c i) (xInv (H1 m c))
/-- of the weights, -/
def codesW : S2048x2304.Idx → EReal := fun i => q8 (arrW m c i) (wInv (H2 m c))
/-- and of the gradient. -/
def codesDy : S4096x2304.Idx → EReal := fun i => q5 (arrDy m c i) (dyInv (H3 m c))

theorem codeX_apply (k : ℕ) (hk : k < 8) (a : Fin 512) (b : Fin 2048) :
    codeX m c k (ix2 a b) = codesX m c (ix2 ⟨512 * k + a.val, by omega⟩ b) := by
  unfold codeX codesX
  rw [xCode_apply, tileX_apply m c k hk]

theorem codeW_apply (k : ℕ) (hk : k < 8) (a : Fin 256) (b : Fin 2304) :
    codeW m c k (ix2 a b) = codesW m c (ix2 ⟨256 * k + a.val, by omega⟩ b) := by
  unfold codeW codesW
  rw [wCode5_apply, tileW_apply m c k hk]

theorem codeDy_apply (k : ℕ) (hk : k < 8) (a : Fin 512) (b : Fin 2304) :
    codeDy m c k (ix2 a b) = codesDy m c (ix2 ⟨512 * k + a.val, by omega⟩ b) := by
  unfold codeDy codesDy
  rw [dyCode_apply, tileDy_apply m c k hk]

theorem allW_eq : allW m c = codesW m c := by
  funext y
  have h0 : (y 0).val < 2048 := (y 0).isLt
  refine (codeW_apply m c ((y 0).val / 256) (by omega) ⟨(y 0).val % 256, by omega⟩ (y 1)).trans (congrArg (codesW m c) ?_)
  blk_ext []

theorem allDy_eq : allDy m c = codesDy m c := by
  funext y
  have h0 : (y 0).val < 4096 := (y 0).isLt
  refine (codeDy_apply m c ((y 0).val / 512) (by omega) ⟨(y 0).val % 512, by omega⟩ (y 1)).trans (congrArg (codesDy m c) ?_)
  blk_ext []

theorem allX_apply (p : Fin 8) (r : Fin 4096) (q : Fin 256) :
    allX m c (ix3 p r q) = codesX m c (ix2 r ⟨256 * p.val + q.val, by omega⟩) := by
  show codeX m c (r.val / 512) (ix2 ⟨r.val % 512, _⟩ ⟨256 * p.val + q.val, _⟩) = _
  rw [codeX_apply m c _ (by omega)]
  blk_ext []
  show _ = r.val
  omega

end Cert.KernelIdeal.Hand

end
-- ==== Proof.KI.Arrays.lean ====
/-
  What the kernel's result arrays hold after its run.
-/
module

public import proofs.«01_k».proof.Proof.KI.Tiles

@[expose] public section

set_option maxRecDepth 16384

noncomputable section

namespace Cert.KernelIdeal.Hand

open Cert.KernelIdeal.Gen Cert.Spec
open Idealize.ShloMosaic hiding ix1 ix2 ix3
open Idealize.ShloMosaic.TcCoe Idealize.ShloMosaic.ValueIdx

variable (m : (ℓ : Loc nD τ sig) → Buf (Elt Ideal) ℓ) (c : Dev nD)

/-! ## The payloads -/

theorem pay53_apply (a : Vec Ideal S512x2048 .fp8e4m3) (b : Vec Ideal S2048x2304 .fp8e4m3) (s t : Elt Ideal .f32) (j : S64x8x2304.Idx) :
    k0_pay53 a b s t j = (∑ x : Fin 2048, a (ix2 ⟨(j 0).val * 8 + (j 1).val, by
      have h0 : (j 0).val < 64 := (j 0).isLt
      have h1 : (j 1).val < 8 := (j 1).isLt
      omega⟩ x) * b (ix2 x (j 2))) * (s * t) := by
  unfold k0_pay53
  pointwise
  rfl

theorem pay54_apply (a : Vec Ideal S512x2304 .fp8e5m2) (b : Vec Ideal S2048x2304 .fp8e4m3) (s t : Elt Ideal .f32) (j : S64x8x2048.Idx) :
    k0_pay54 a b s t j = (∑ x : Fin 2304, a (ix2 ⟨(j 0).val * 8 + (j 1).val, by
      have h0 : (j 0).val < 64 := (j 0).isLt
      have h1 : (j 1).val < 8 := (j 1).isLt
      omega⟩ x) * b (ix2 (j 2) x)) * (s * t) := by
  unfold k0_pay54
  pointwise
  rfl

theorem pay6_apply (a : Vec Ideal S1x4096x256 .fp8e4m3) (b : Vec Ideal S4096x2304 .fp8e5m2) (s t : Elt Ideal .f32) (j : S256x2304.Idx) :
    k0_pay6 a b s t j = (∑ x : Fin 4096, a (ix3 0 x (j 0)) * b (ix2 x (j 1))) * (s * t) := by
  unfold k0_pay6
  pointwise
  rfl

/-! ## The index maps -/

theorem index6 : ∀ t : Fin grid0.N, win0_6.index t = ![min (t.val - 8) 7, 0, 0] := by decide +kernel
theorem index7 : ∀ t : Fin grid0.N, win0_7.index t = ![min (t.val - 8) 7, 0, 0] := by decide +kernel
theorem index8 : ∀ t : Fin grid0.N, win0_8.index t = ![t.val - 16, 0] := by decide +kernel
theorem index12 : ∀ t : Fin grid0.N, win0_12.index t = ![min (t.val - 8) 7, 0] := by decide +kernel
theorem index14 : ∀ t : Fin grid0.N, win0_14.index t = ![min t.val 7, 0] := by decide +kernel
theorem index16 : ∀ t : Fin grid0.N, win0_16.index t = ![min (t.val - 8) 7, 0] := by decide +kernel

theorem tok_lt (n : ℕ) : tok n < 8 := by unfold tok; omega

/-! ## The arrays -/

theorem arr12 : (dats m 0 c).arrAt 12 (cfgs 0).N = codesX m c := by
  refine (dats m 0 c).arrAt_eq_of_covers 12 _ (by decide +kernel) fun t hf y => ?_
  blk_simp
  rw [after0_12]
  obtain ⟨a, b, rfl⟩ : ∃ (a : Fin 512) (b : Fin 2048), y = ix2 a b := ⟨y 0, y 1, by blk_ext []⟩
  refine (codeX_apply m c _ (tok_lt _) a b).trans (congrArg (codesX m c) ?_)
  blk_ext [index12 t]
  show 512 * min (t.val - 8) 7 + a.val = _ + a.val
  omega

theorem arr16 : (dats m 0 c).arrAt 16 (cfgs 0).N = codesDy m c := by
  refine (dats m 0 c).arrAt_eq_of_covers 16 _ (by decide +kernel) fun t hf y => ?_
  blk_simp
  rw [after0_16]
  obtain ⟨a, b, rfl⟩ : ∃ (a : Fin 512) (b : Fin 2304), y = ix2 a b := ⟨y 0, y 1, by blk_ext []⟩
  refine (codeDy_apply m c _ (tok_lt _) a b).trans (congrArg (codesDy m c) ?_)
  blk_ext [index16 t]
  show 512 * min (t.val - 8) 7 + a.val = _ + a.val
  omega

theorem arr14 : (dats m 0 c).arrAt 14 (cfgs 0).N = codesW m c := by
  refine (dats m 0 c).arrAt_eq_of_covers 14 _ (by decide +kernel) fun t hf y => ?_
  blk_simp
  rw [after0_14]
  obtain ⟨a, b, rfl⟩ : ∃ (a : Fin 256) (b : Fin 2304), y = ix2 a b := ⟨y 0, y 1, by blk_ext []⟩
  refine (wCode_apply _ _ _).trans ?_
  rw [tileW_apply m c _ (by omega)]
  refine congrArg (codesW m c) ?_
  blk_ext [index14 t]
  show 256 * min t.val 7 + a.val = _ + a.val
  omega

theorem arr6 : (dats m 0 c).arrAt 6 (cfgs 0).N = prodY (codesX m c) (codesW m c) (xScale (H1 m c) * wScale (H2 m c)) := by
  refine (dats m 0 c).arrAt_eq_of_covers 6 _ (by decide +kernel) fun t hf y => ?_
  blk_simp
  rw [after0_6, allW_eq]
  have h0 : (y 0).val < 64 := (y 0).isLt
  have h1 : (y 1).val < 8 := (y 1).isLt
  refine (pay53_apply _ _ _ _ y).trans ?_
  unfold prodY
  refine congrArg (· * _) (Finset.sum_congr rfl fun k _ => ?_)
  refine congrArg₂ (· * ·) ((codeX_apply m c _ (tok_lt _) _ k).trans (congrArg (codesX m c) ?_)) (congrArg (codesW m c) ?_)
  · blk_ext [index6 t, tok]
  · blk_ext []
    show (y 2).val = ((((cfg0.win 6).blk t).view.emb y) 2 : ℕ)
    blk_simp [index6 t]
    try omega

theorem arr7 : (dats m 0 c).arrAt 7 (cfgs 0).N = prodDx (codesDy m c) (codesW m c) (dyScale (H3 m c) * wScale (H2 m c)) := by
  refine (dats m 0 c).arrAt_eq_of_covers 7 _ (by decide +kernel) fun t hf y => ?_
  blk_simp
  rw [after0_7, allW_eq]
  have h0 : (y 0).val < 64 := (y 0).isLt
  have h1 : (y 1).val < 8 := (y 1).isLt
  refine (pay54_apply _ _ _ _ y).trans ?_
  unfold prodDx
  refine congrArg (· * _) (Finset.sum_congr rfl fun k _ => ?_)
  refine congrArg₂ (· * ·) ((codeDy_apply m c _ (tok_lt _) _ k).trans (congrArg (codesDy m c) ?_)) (congrArg (codesW m c) ?_)
  · blk_ext [index7 t, tok]
  · blk_ext []
    show (y 2).val = ((((cfg0.win 7).blk t).view.emb y) 2 : ℕ)
    blk_simp [index7 t]
    try omega

theorem arr8 : (dats m 0 c).arrAt 8 (cfgs 0).N = prodDw (codesX m c) (codesDy m c) (xScale (H1 m c) * dyScale (H3 m c)) := by
  refine (dats m 0 c).arrAt_eq_of_covers 8 _ (by decide +kernel) fun t hf y => ?_
  blk_simp
  rw [after0_8, allDy_eq]
  have hf' : 16 ≤ t.val := by simpa using (flush8 t).symm.trans hf
  have ht : t.val < 24 := t.isLt
  refine (pay6_apply _ _ _ _ y).trans ?_
  unfold prodDw
  refine congrArg (· * _) (Finset.sum_congr rfl fun k _ => ?_)
  refine congrArg₂ (· * ·) ((allX_apply m c _ k _).trans (congrArg (codesX m c) ?_)) (congrArg (codesDy m c) ?_)
  · blk_ext []
    show 256 * min (t.val - 16) 7 + (y 0).val = ((((cfg0.win 8).blk t).view.emb y) 0 : ℕ)
    blk_simp [index8 t]
    omega
  · blk_ext []
    show (y 1).val = ((((cfg0.win 8).blk t).view.emb y) 1 : ℕ)
    blk_simp [index8 t]
    try omega

end Cert.KernelIdeal.Hand

end
-- ==== Proof.Math.RefExpo.lean ====
/-
  The reference's exponent, the greatest `e` of a list with `2 ^ e` at most a number and one more, is the one that the
  kernel's search finds; and its scale, two to that power.
-/
module

public import proofs.«01_k».proof.Proof.Math.Expo

@[expose] public section

noncomputable section

namespace Cert.Expo

open Idealize.ShloMosaic

theorem ofBits_two : Ideal.ofBits .f32 0x40000000#32 = ((2 : ℝ) : EReal) := by
  simp [Ideal.ofBits, Ideal.ieee, -EReal.coe_mul]; norm_num

theorem ofBits_least : Ideal.ofBits .f32 0xC2FC0000#32 = ((-126 : ℝ) : EReal) := by
  simp [Ideal.ofBits, Ideal.ieee, -EReal.coe_mul]; norm_num

theorem ofBits_below : Ideal.ofBits .f32 0xC2FE0000#32 = ((-127 : ℝ) : EReal) := by
  simp [Ideal.ofBits, Ideal.ieee, -EReal.coe_mul]; norm_num

theorem ofBits_bot : Ideal.ofBits .f32 0xFF800000#32 = ⊥ := by
  simp [Ideal.ofBits, Ideal.ieee]

theorem ofBits_bot16 : Ideal.ofBits .bf16 0xFF80#16 = ⊥ := by
  simp [Ideal.ofBits, Ideal.ieee]

/-- Two to a whole power. -/
theorem pow_two (k : ℤ) : Ideal.pow (Ideal.ofBits .f32 0x40000000#32) ((k : ℝ) : EReal) = (((2 : ℝ) ^ k : ℝ) : EReal) := by
  rw [ofBits_two]
  show ((Real.rpow 2 (k : ℝ) : ℝ) : EReal) = _
  rw [EReal.coe_eq_coe_iff]
  exact Real.rpow_intCast 2 k

theorem entry (x : Fin 252) :
    Ideal.ofBits .f32 0xC2FC0000#32 + FloatOps.sitofp (F := Ideal) .f32 (BitVec.ofNat 32 x.val) = (((x.val : ℤ) - 126 : ℤ) : ℝ) := by
  have hx := x.isLt
  have e : (BitVec.ofNat 32 x.val).toInt = x.val := by
    rw [BitVec.toInt_eq_toNat_cond, BitVec.toNat_ofNat]; split <;> omega
  show Ideal.ofBits .f32 0xC2FC0000#32 + (((BitVec.ofNat 32 x.val).toInt : ℝ) : EReal) = _
  rw [ofBits_least, e, ← EReal.coe_add, EReal.coe_eq_coe_iff]
  push_cast
  ring

/-- The power at a list's entry is reached if its field is. -/
theorem entry_le (v : EReal) (x : Fin 252) :
    Ideal.pow (Ideal.ofBits .f32 0x40000000#32)
      (Ideal.ofBits .f32 0xC2FC0000#32 + FloatOps.sitofp (F := Ideal) .f32 (BitVec.ofNat 32 x.val)) ≤ v ↔ x.val + 1 ≤ reach v := by
  have hx := x.isLt
  rw [entry, pow_two, ← pw_le_iff v (x.val + 1) (by omega) (by omega), pw_eq _ (by omega) (by omega)]
  push_cast
  rw [show (x.val : ℤ) + 1 - 127 = (x.val : ℤ) - 126 by ring]

theorem fold_entries (v : EReal) [∀ x : Fin 252, Decidable (Ideal.pow (Ideal.ofBits .f32 0x40000000#32)
      (Ideal.ofBits .f32 0xC2FC0000#32 + FloatOps.sitofp (F := Ideal) .f32 (BitVec.ofNat 32 x.val)) ≤ v)] :
    Finset.fold max (Ideal.ofBits .f32 0xFF800000#32) (fun x : Fin 252 =>
      if Ideal.pow (Ideal.ofBits .f32 0x40000000#32)
          (Ideal.ofBits .f32 0xC2FC0000#32 + FloatOps.sitofp (F := Ideal) .f32 (BitVec.ofNat 32 x.val)) ≤ v
      then Ideal.ofBits .f32 0xC2FC0000#32 + FloatOps.sitofp (F := Ideal) .f32 (BitVec.ofNat 32 x.val)
      else Ideal.ofBits .f32 0xC2FE0000#32) Finset.univ = (((min (reach v) 252 : ℕ) : ℝ) - 127 : ℝ) := by
  simp only [entry_le]
  simp only [entry, ofBits_below, ofBits_bot]
  apply le_antisymm
  · refine Finset.fold_max_le _ |>.2 ⟨bot_le, fun x _ => ?_⟩
    have hx := x.isLt
    split_ifs with h
    · rw [EReal.coe_le_coe_iff]
      have : ((x.val + 1 : ℕ) : ℝ) ≤ ((min (reach v) 252 : ℕ) : ℝ) := Nat.cast_le.2 (by omega)
      push_cast at this ⊢
      linarith
    · rw [EReal.coe_le_coe_iff]
      have : (0 : ℝ) ≤ ((min (reach v) 252 : ℕ) : ℝ) := Nat.cast_nonneg _
      linarith
  · refine Finset.le_fold_max _ |>.2 (Or.inr ?_)
    rcases Nat.eq_zero_or_pos (reach v) with h0 | h0
    · refine ⟨⟨0, by norm_num⟩, Finset.mem_univ _, ?_⟩
      rw [if_neg (by simp only; omega), h0]
      norm_num
    · refine ⟨⟨min (reach v) 252 - 1, by omega⟩, Finset.mem_univ _, ?_⟩
      rw [if_pos (by simp only; omega), EReal.coe_le_coe_iff]
      have h1 : 1 ≤ min (reach v) 252 := by omega
      have : ((min (reach v) 252 - 1 : ℕ) : ℤ) = ((min (reach v) 252 : ℕ) : ℤ) - 1 := by omega
      rw [this]
      push_cast
      linarith

/-- The reference's exponent. -/
theorem ref_expo (a v : EReal) [Decidable (a = 0)] [Decidable (v = Ideal.ofBits .f32 0x7F800000#32)]
    [∀ x : Fin 252, Decidable (Ideal.pow (Ideal.ofBits .f32 0x40000000#32)
      (Ideal.ofBits .f32 0xC2FC0000#32 + FloatOps.sitofp (F := Ideal) .f32 (BitVec.ofNat 32 x.val)) ≤ v)] :
    Scalar.select (IntOp.ori (BitVec.ofBool (decide (a = 0))) (BitVec.ofBool (decide (v = Ideal.ofBits .f32 0x7F800000#32))))
      (Ideal.ofBits .f32 0x00000000#32)
      (Finset.fold max (Ideal.ofBits .f32 0xFF800000#32) (fun x : Fin 252 =>
        if Ideal.pow (Ideal.ofBits .f32 0x40000000#32)
            (Ideal.ofBits .f32 0xC2FC0000#32 + FloatOps.sitofp (F := Ideal) .f32 (BitVec.ofNat 32 x.val)) ≤ v
        then Ideal.ofBits .f32 0xC2FC0000#32 + FloatOps.sitofp (F := Ideal) .f32 (BitVec.ofNat 32 x.val)
        else Ideal.ofBits .f32 0xC2FE0000#32) Finset.univ + 1)
      = ((((index a v : ℤ) - 126 : ℤ) : ℝ) : EReal) := by
  rw [fold_entries, Ideal.ofBits_zero_f32]
  have hsel : ∀ p q : Bool, ∀ x y : EReal, Scalar.select (IntOp.ori (BitVec.ofBool p) (BitVec.ofBool q)) x y = if p || q then x else y := by
    intro p q x y
    cases p <;> cases q <;> rfl
  rw [hsel]
  simp only [ofBits_inf]
  unfold index
  by_cases ha : a = 0
  · simp [ha]
  · by_cases hv : v = ⊤
    · simp [hv]
    · rw [if_neg (by simp [ha, hv]), if_neg ha, if_pos (lt_top_iff_ne_top.2 hv), show (1 : EReal) = ((1 : ℝ) : EReal) from rfl, ← EReal.coe_add,
        EReal.coe_eq_coe_iff]
      push_cast
      ring

theorem ref_scale (k : ℤ) : Ideal.pow (Ideal.ofBits .f32 0x40000000#32) (((k - 126 : ℤ) : ℝ) : EReal) = (((2 : ℝ) ^ (k - 126) : ℝ) : EReal) :=
  pow_two _

theorem ref_inv (k : ℤ) : Ideal.pow (Ideal.ofBits .f32 0x40000000#32) (-(((k - 126 : ℤ) : ℝ) : EReal)) = (((2 : ℝ) ^ (126 - k) : ℝ) : EReal) := by
  rw [← pow_two, ← EReal.coe_neg]
  congr 2
  push_cast
  ring

end Cert.Expo

end
-- ==== Proof.KI.Tops.lean ====
/-
  What the kernel's history and scale results hold after its run.
-/
module

public import proofs.«01_k».proof.Proof.KI.Tiles
public import proofs.«01_k».proof.Proof.Math.RefExpo

@[expose] public section

set_option maxRecDepth 16384

noncomputable section

namespace Cert.KernelIdeal.Hand

open Cert.KernelIdeal.Gen Cert.Spec
open Idealize.ShloMosaic hiding ix1 ix2 ix3
open Idealize.ShloMosaic.TcCoe Idealize.ShloMosaic.ValueIdx

variable (m : (ℓ : Loc nD τ sig) → Buf (Elt Ideal) ℓ) (c : Dev nD)

/-! ## The greatest magnitudes -/

theorem maxX_zero (j : S16x2048.Idx) : maxX m c 0 j = 0 := by
  show (k0_pay35 (F := Ideal)) j = 0
  unfold k0_pay35
  pointwise

theorem maxW_zero (j : S8x2304.Idx) : maxW m c 0 j = 0 := by
  show (k0_pay1 (k0_pay36 (F := Ideal))) j = 0
  unfold k0_pay1 k0_pay36
  pointwise

theorem maxDy_zero (j : S16x2304.Idx) : maxDy m c 0 j = 0 := by
  show (k0_pay2 (F := Ideal)) j = 0
  unfold k0_pay2
  pointwise

theorem maxX_succ (k : ℕ) (a : Fin 16) (b : Fin 2048) : maxX m c (k + 1) (ix2 a b)
    = max (maxX m c k (ix2 a b)) (Finset.fold max ⊥ (fun r : Fin 32 => mag (tileX m c k (ix2 ⟨r.val * 16 + a.val, by omega⟩ b))) Finset.univ) := by
  show k0_pay39 (tileX m c k) (maxX m c k) (ix2 a b) = _
  unfold k0_pay39 k0_pay37
  pointwise
  rw [Cert.Expo.ofBits_bot16]
  rfl

theorem maxW_succ (k : ℕ) (a : Fin 8) (b : Fin 2304) : maxW m c (k + 1) (ix2 a b)
    = max (maxW m c k (ix2 a b)) (Finset.fold max ⊥ (fun r : Fin 32 => mag (tileW m c k (ix2 ⟨r.val * 8 + a.val, by omega⟩ b))) Finset.univ) := by
  show k0_pay3 (tileW m c k) (maxW m c k) (ix2 a b) = _
  unfold k0_pay3
  pointwise
  rw [Cert.Expo.ofBits_bot]
  rfl

theorem maxDy_succ (k : ℕ) (a : Fin 16) (b : Fin 2304) : maxDy m c (k + 1) (ix2 a b)
    = max (maxDy m c k (ix2 a b)) (Finset.fold max ⊥ (fun r : Fin 32 => mag (tileDy m c k (ix2 ⟨r.val * 16 + a.val, by omega⟩ b))) Finset.univ) := by
  show k0_pay40 (tileDy m c k) (maxDy m c k) (ix2 a b) = _
  unfold k0_pay40 k0_pay38
  pointwise
  rw [Cert.Expo.ofBits_bot16]
  rfl

theorem topX : k0_pay55 (maxX m c 8) = size (arrX m c) := by
  have e : k0_pay55 (maxX m c 8) = Finset.fold max ⊥ (fun x : Fin 16 × Fin 2048 => maxX m c 8 (ix2 x.1 x.2)) Finset.univ := by
    unfold k0_pay55
    pointwise
    rw [Cert.Expo.ofBits_bot]
    rfl
  rw [e]
  refine fold_tiles (arrX m c) (maxX m c 8) (fun k r a b => tileX m c k (ix2 ⟨r.val * 16 + a.val, by omega⟩ b)) (ix2 0 0)
    (fun a b t => runMax_le (fun n => maxX m c n (ix2 a b)) _ (maxX_zero m c _) (fun k => maxX_succ m c k a b) t 8) ?_ ?_
  · exact fun k hk r a b => ⟨_, tileX_apply m c k hk _ b⟩
  · intro i
    have h0 : (i 0).val < 4096 := (i 0).isLt
    refine ⟨(i 0).val / 512, by omega, ⟨(i 0).val % 512 / 16, by omega⟩, ⟨(i 0).val % 16, by omega⟩, i 1, ?_⟩
    refine (tileX_apply m c _ (by omega) _ _).trans (congrArg (arrX m c) ?_)
    blk_ext []

theorem topW : k0_pay56 (maxW m c 8) = size (arrW m c) := by
  have e : k0_pay56 (maxW m c 8) = Finset.fold max ⊥ (fun x : Fin 8 × Fin 2304 => maxW m c 8 (ix2 x.1 x.2)) Finset.univ := by
    unfold k0_pay56
    pointwise
    rw [Cert.Expo.ofBits_bot]
    rfl
  rw [e]
  refine fold_tiles (arrW m c) (maxW m c 8) (fun k r a b => tileW m c k (ix2 ⟨r.val * 8 + a.val, by omega⟩ b)) (ix2 0 0)
    (fun a b t => runMax_le (fun n => maxW m c n (ix2 a b)) _ (maxW_zero m c _) (fun k => maxW_succ m c k a b) t 8) ?_ ?_
  · exact fun k hk r a b => ⟨_, tileW_apply m c k hk _ b⟩
  · intro i
    have h0 : (i 0).val < 2048 := (i 0).isLt
    refine ⟨(i 0).val / 256, by omega, ⟨(i 0).val % 256 / 8, by omega⟩, ⟨(i 0).val % 8, by omega⟩, i 1, ?_⟩
    refine (tileW_apply m c _ (by omega) _ _).trans (congrArg (arrW m c) ?_)
    blk_ext []

theorem topDy : k0_pay58 (k0_pay57 (maxDy m c 8)) = size (arrDy m c) := by
  have e : k0_pay58 (k0_pay57 (maxDy m c 8))
      = Finset.fold max ⊥ (fun x : Fin 16 × Fin 2304 => maxDy m c 8 (ix2 x.1 x.2)) Finset.univ := by
    unfold k0_pay58 k0_pay57
    pointwise
    rw [Cert.Expo.ofBits_bot]
    rfl
  rw [e]
  refine fold_tiles (arrDy m c) (maxDy m c 8) (fun k r a b => tileDy m c k (ix2 ⟨r.val * 16 + a.val, by omega⟩ b)) (ix2 0 0)
    (fun a b t => runMax_le (fun n => maxDy m c n (ix2 a b)) _ (maxDy_zero m c _) (fun k => maxDy_succ m c k a b) t 8) ?_ ?_
  · exact fun k hk r a b => ⟨_, tileDy_apply m c k hk _ b⟩
  · intro i
    have h0 : (i 0).val < 4096 := (i 0).isLt
    refine ⟨(i 0).val / 512, by omega, ⟨(i 0).val % 512 / 16, by omega⟩, ⟨(i 0).val % 16, by omega⟩, i 1, ?_⟩
    refine (tileDy_apply m c _ (by omega) _ _).trans (congrArg (arrDy m c) ?_)
    blk_ext []

/-! ## The arguments -/

theorem H1_eq : H1 m c = m (c, Proc.tc.devRef main_arg3) := by
  funext j
  unfold H1
  blk_simp [iblk]
  unfold V
  after_reads_at
  blk_ext [(by decide +kernel : win0_0.index (pt 0) = ![0])]

theorem H2_eq : H2 m c = m (c, Proc.tc.devRef main_arg4) := by
  funext j
  unfold H2
  blk_simp [iblk]
  unfold V
  after_reads_at
  blk_ext [(by decide +kernel : win0_1.index (pt 0) = ![0])]

theorem H3_eq : H3 m c = m (c, Proc.tc.devRef main_arg5) := by
  funext j
  unfold H3
  blk_simp [iblk]
  unfold V
  after_reads_at
  blk_ext [(by decide +kernel : win0_2.index (pt 0) = ![0])]

/-- Tokens, weights and gradient, from the arguments. -/
theorem arrX_apply (j : S4096x2048.Idx) : arrX m c j = m (c, Proc.tc.devRef main_arg0) (ix3 ⟨(j 0).val / 1024, by
    have h0 : (j 0).val < 4096 := (j 0).isLt
    omega⟩ ⟨(j 0).val % 1024, by omega⟩ (j 1)) := by
  unfold arrX V
  after_reads_at
  rfl

theorem arrDy_apply (j : S4096x2304.Idx) : arrDy m c j = m (c, Proc.tc.devRef main_arg2) (ix3 ⟨(j 0).val / 1024, by
    have h0 : (j 0).val < 4096 := (j 0).isLt
    omega⟩ ⟨(j 0).val % 1024, by omega⟩ (j 1)) := by
  unfold arrDy V
  after_reads_at
  rfl

theorem arrW_eq : arrW m c = m (c, Proc.tc.devRef main_arg1) := by
  funext j
  unfold arrW V
  after_reads_at

/-! ## The histories -/

theorem shift_eq (h : Vec Ideal S16 .f32) (v : Elt Ideal .f32) : shift h v = newHist h v := by
  funext k
  have h0 : (k 0).val < 16 := (k 0).isLt
  unfold shift newHist
  by_cases hk : (k 0).val < 15
  · rw [dif_pos (by omega), dif_pos hk]
    unfold cell
    refine congrArg h ?_
    blk_ext []
  · rw [dif_neg (by omega), dif_neg hk]

theorem arr9 : (dats m 0 c).arrAt 9 (cfgs 0).N = newHist (H1 m c) (size (arrX m c)) := by
  refine (dats m 0 c).arrAt_eq_of_after_last 9 (pt 23) (by decide +kernel) _ fun j => ?_
  rw [after0_9, topX, shift_eq]
  rfl

theorem arr10 : (dats m 0 c).arrAt 10 (cfgs 0).N = newHist (H2 m c) (size (arrW m c)) := by
  refine (dats m 0 c).arrAt_eq_of_after_last 10 (pt 23) (by decide +kernel) _ fun j => ?_
  rw [after0_10, topW, shift_eq]
  rfl

theorem arr11 : (dats m 0 c).arrAt 11 (cfgs 0).N = newHist (H3 m c) (size (arrDy m c)) := by
  refine (dats m 0 c).arrAt_eq_of_after_last 11 (pt 23) (by decide +kernel) _ fun j => ?_
  rw [after0_11, topDy, shift_eq]
  rfl

/-! ## The scales -/

theorem arr13 : (dats m 0 c).arrAt 13 (cfgs 0).N = fun _ => xScale (H1 m c) := by
  refine (dats m 0 c).arrAt_eq_of_after_last 13 (pt 23) (by decide +kernel) _ fun j => ?_
  rw [after0_13]
  rfl

theorem arr15 : (dats m 0 c).arrAt 15 (cfgs 0).N = fun _ => wScale (H2 m c) := by
  refine (dats m 0 c).arrAt_eq_of_after_last 15 (pt 23) (by decide +kernel) _ fun j => ?_
  rw [after0_15]
  rfl

theorem arr17 : (dats m 0 c).arrAt 17 (cfgs 0).N = fun _ => dyScale (H3 m c) := by
  refine (dats m 0 c).arrAt_eq_of_after_last 17 (pt 23) (by decide +kernel) _ fun j => ?_
  rw [after0_17]
  rfl

end Cert.KernelIdeal.Hand

end
-- ==== Proof.Math.HistScale.lean ====
/-
  A scale from a history, and the reference's search for it.
-/
module

public import proofs.«01_k».proof.Proof.Math.Spec
public import proofs.«01_k».proof.Proof.Math.RefExpo

@[expose] public section

noncomputable section

namespace Cert.Spec

open Idealize.ShloMosaic

/-- The greatest word of a history. -/
def histTop (h : (⟨1, ![16]⟩ : Shape).Idx → EReal) : EReal :=
  Finset.fold max (Ideal.ofBits .f32 0xFF800000#32) (fun k : Fin 16 => h (ValueIdx.ix1 k)) Finset.univ

/-- The exponent of its scale for a format's unit, from the least one, -/
def scaleIndex (k : BitVec 32) (h : (⟨1, ![16]⟩ : Shape).Idx → EReal) : ℕ :=
  Cert.Expo.index (histTop h) (mag (histTop h * Ideal.ofBits .f32 k))
/-- the scale, -/
def scaleOf (k : BitVec 32) (h : (⟨1, ![16]⟩ : Shape).Idx → EReal) : EReal :=
  (((2 : ℝ) ^ ((scaleIndex k h : ℤ) - 126) : ℝ) : EReal)
/-- and its inverse. -/
def invOf (k : BitVec 32) (h : (⟨1, ![16]⟩ : Shape).Idx → EReal) : EReal :=
  (((2 : ℝ) ^ (126 - (scaleIndex k h : ℤ)) : ℝ) : EReal)

/-! ## The results -/

/-- The tokens' and the weights' codes, from an array and its history, -/
def codes8 {S : Shape} (a : S.Idx → EReal) (h : (⟨1, ![16]⟩ : Shape).Idx → EReal) : S.Idx → EReal :=
  fun i => q8 (a i) (invOf 0x3B124925#32 h)
/-- and the gradient's. -/
def codes5 {S : Shape} (a : S.Idx → EReal) (h : (⟨1, ![16]⟩ : Shape).Idx → EReal) : S.Idx → EReal :=
  fun i => q5 (a i) (invOf 0x37924925#32 h)

/-- An array of four batches by its rows. -/
def rows {n : ℕ} (a : (⟨3, ![4, 1024, n]⟩ : Shape).Idx → EReal) : (⟨2, ![4096, n]⟩ : Shape).Idx → EReal := fun j =>
  a (ValueIdx.ix3 ⟨(j 0).val / 1024, by
    have h0 : (j 0).val < 4096 := (j 0).isLt
    omega⟩ ⟨(j 0).val % 1024, by omega⟩ (j 1))

/-- The unit of the tokens' and the weights' format, -/
abbrev unit8 : BitVec 32 := 0x3B124925#32
/-- and of the gradient's. -/
abbrev unit5 : BitVec 32 := 0x37924925#32

section
variable (x : (⟨3, ![4, 1024, 2048]⟩ : Shape).Idx → EReal) (w : (⟨2, ![2048, 2304]⟩ : Shape).Idx → EReal)
  (dy : (⟨3, ![4, 1024, 2304]⟩ : Shape).Idx → EReal) (hx hw hdy : (⟨1, ![16]⟩ : Shape).Idx → EReal)

/-- The output, -/
def resY : (⟨3, ![512, 8, 2304]⟩ : Shape).Idx → EReal :=
  prodY (codes8 (rows x) hx) (codes8 w hw) (scaleOf unit8 hx * scaleOf unit8 hw)
/-- the gradient of the tokens, -/
def resDx : (⟨3, ![512, 8, 2048]⟩ : Shape).Idx → EReal :=
  prodDx (codes5 (rows dy) hdy) (codes8 w hw) (scaleOf unit5 hdy * scaleOf unit8 hw)
/-- and of the weights. -/
def resDw : (⟨2, ![2048, 2304]⟩ : Shape).Idx → EReal :=
  prodDw (codes8 (rows x) hx) (codes5 (rows dy) hdy) (scaleOf unit8 hx * scaleOf unit5 hdy)
end

theorem size_rows {n : ℕ} (a : (⟨3, ![4, 1024, n]⟩ : Shape).Idx → EReal) : size (rows a) = size a := by
  refine eq_of_forall_ge_iff fun t => ?_
  rw [size_le, size_le]
  refine ⟨fun h i => ?_, fun h j => h _⟩
  have h0 : (i 0).val < 4 := (i 0).isLt
  have h1 : (i 1).val < 1024 := (i 1).isLt
  have e : rows a (ValueIdx.ix2 ⟨(i 0).val * 1024 + (i 1).val, by omega⟩ (i 2)) = a i := by
    refine congrArg a (funext fun d => ?_)
    fin_cases d
    · exact Fin.ext (by show ((i 0).val * 1024 + (i 1).val) / 1024 = (i 0).val; omega)
    · exact Fin.ext (by show ((i 0).val * 1024 + (i 1).val) % 1024 = (i 1).val; omega)
    · rfl
  rw [← e]
  exact h _

/-- A greatest magnitude as the reference takes it. -/
theorem fold_size {S : Shape} {ι : Type} [Fintype ι] (a : S.Idx → EReal) (f : ι → S.Idx) (hf : ∀ i, ∃ k, f k = i) :
    Finset.fold max (Ideal.ofBits .f32 0xFF800000#32) (fun k => mag (a (f k))) Finset.univ = size a := by
  rw [Cert.Expo.ofBits_bot]
  refine eq_of_forall_ge_iff fun t => ?_
  rw [Finset.fold_max_le, size_le]
  constructor
  · rintro ⟨-, h⟩ i
    obtain ⟨k, rfl⟩ := hf i
    exact h k (Finset.mem_univ _)
  · exact fun h => ⟨bot_le, fun k _ => h _⟩

end Cert.Spec

end
-- ==== Proof.KI.Results.lean ====
/-
  The kernel's results as functions of its arguments.
-/
module

public import proofs.«01_k».proof.Proof.KI.Arrays
public import proofs.«01_k».proof.Proof.KI.Tops
public import proofs.«01_k».proof.Proof.KI.Run
public import proofs.«01_k».proof.Proof.Math.HistScale

@[expose] public section

set_option maxRecDepth 16384

noncomputable section

namespace Cert.KernelIdeal.Hand

open Cert.KernelIdeal.Gen Cert.Spec
open Idealize.ShloMosaic hiding ix1 ix2 ix3
open Idealize.ShloMosaic.TcCoe Idealize.ShloMosaic.ValueIdx

/-! ## The scales -/

theorem max16_le (a0 a1 a2 a3 a4 a5 a6 a7 a8 a9 a10 a11 a12 a13 a14 a15 t : EReal) :
    max (max (max (max (max (max (max (max (max (max (max (max (max (max (max a0 a1) a2) a3) a4) a5) a6) a7) a8) a9) a10) a11) a12) a13) a14) a15 ≤ t
      ↔ a0 ≤ t ∧ a1 ≤ t ∧ a2 ≤ t ∧ a3 ≤ t ∧ a4 ≤ t ∧ a5 ≤ t ∧ a6 ≤ t ∧ a7 ≤ t ∧ a8 ≤ t ∧ a9 ≤ t ∧ a10 ≤ t ∧ a11 ≤ t ∧ a12 ≤ t ∧ a13 ≤ t ∧ a14 ≤ t ∧ a15 ≤ t := by
  simp only [max_le_iff, and_assoc]

theorem top16_eq (h : Vec Ideal S16 .f32) : top16 h = histTop h := by
  refine eq_of_forall_ge_iff fun t => ?_
  unfold histTop
  rw [Cert.Expo.ofBits_bot, Finset.fold_max_le]
  have e : ∀ k : Fin 16, cell h k.val k.isLt = h (ix1 k) := fun k => by
    unfold cell
    refine congrArg h ?_
    blk_ext []
  show top16 h ≤ t ↔ _
  simp only [bot_le, true_and, Finset.mem_univ, true_imp_iff, ← e, Fin.forall_fin_succ,
    IsEmpty.forall_iff, and_true]
  exact max16_le _ _ _ _ _ _ _ _ _ _ _ _ _ _ _ _ t

theorem histScale_eq (k : BitVec 32) (h : Vec Ideal S16 .f32) : histScale k h = scaleOf k h := by
  unfold histScale scaleOf histIndex scaleIndex
  rw [top16_eq]
  rfl

theorem histInv_eq (k : BitVec 32) (h : Vec Ideal S16 .f32) : histInv k h = invOf k h := by
  unfold histInv invOf histIndex scaleIndex
  rw [top16_eq]
  rfl

variable (m : (ℓ : Loc nD τ sig) → Buf (Elt Ideal) ℓ) (c : Dev nD)

/-! ## The arguments -/

theorem arrX_rows : arrX m c = rows (m (c, Proc.tc.devRef main_arg0)) := funext fun j => arrX_apply m c j
theorem arrDy_rows : arrDy m c = rows (m (c, Proc.tc.devRef main_arg2)) := funext fun j => arrDy_apply m c j

theorem codesX_eq : codesX m c = codes8 (rows (m (c, Proc.tc.devRef main_arg0))) (m (c, Proc.tc.devRef main_arg3)) := by
  unfold codesX codes8
  rw [arrX_rows, H1_eq, xInv_eq, histInv_eq]

theorem codesW_eq : codesW m c = codes8 (S := S2048x2304) (m (c, Proc.tc.devRef main_arg1)) (m (c, Proc.tc.devRef main_arg4)) := by
  unfold codesW codes8
  rw [arrW_eq, H2_eq, wInv_eq, histInv_eq]

theorem codesDy_eq : codesDy m c = codes5 (rows (m (c, Proc.tc.devRef main_arg2))) (m (c, Proc.tc.devRef main_arg5)) := by
  unfold codesDy codes5
  rw [arrDy_rows, H3_eq, dyInv_eq, histInv_eq]

theorem scaleX_eq : xScale (H1 m c) = scaleOf 0x3B124925#32 (m (c, Proc.tc.devRef main_arg3)) := by
  rw [xScale_eq, histScale_eq, H1_eq]

theorem scaleW_eq : wScale (H2 m c) = scaleOf 0x3B124925#32 (m (c, Proc.tc.devRef main_arg4)) := by
  rw [wScale_eq, histScale_eq, H2_eq]

theorem scaleDy_eq : dyScale (H3 m c) = scaleOf 0x37924925#32 (m (c, Proc.tc.devRef main_arg5)) := by
  rw [dyScale_eq, histScale_eq, H3_eq]

theorem sizeX_eq : size (arrX m c) = size (S := S4x1024x2048) (m (c, Proc.tc.devRef main_arg0)) := by
  rw [arrX_rows]
  exact size_rows _

theorem sizeW_eq : size (arrW m c) = size (S := S2048x2304) (m (c, Proc.tc.devRef main_arg1)) := by
  rw [arrW_eq]

theorem sizeDy_eq : size (arrDy m c) = size (S := S4x1024x2304) (m (c, Proc.tc.devRef main_arg2)) := by
  rw [arrDy_rows]
  exact size_rows _

/-! ## The run -/

/-- What the kernel leaves, in terms of its arguments. -/
theorem results (ρ : Dev nD → PrngReg) (x : Dev nD → S4x1024x2048.Idx → EReal) (w : Dev nD → S2048x2304.Idx → EReal)
    (dy : Dev nD → S4x1024x2304.Idx → EReal) (hx hw hdy : Dev nD → S16.Idx → EReal)
    (ex : ∀ c, m (c, Proc.tc.devRef main_arg0) = x c) (ew : ∀ c, m (c, Proc.tc.devRef main_arg1) = w c)
    (edy : ∀ c, m (c, Proc.tc.devRef main_arg2) = dy c) (ehx : ∀ c, m (c, Proc.tc.devRef main_arg3) = hx c)
    (ehw : ∀ c, m (c, Proc.tc.devRef main_arg4) = hw c) (ehdy : ∀ c, m (c, Proc.tc.devRef main_arg5) = hdy c) :
    θ_run defs (onTc (τ := τ) (main (F := Ideal))) ⟨m, fun _ => 0, ρ⟩ (fun r => ∀ c : Dev nD,
      r.2.mem ((c.tc : Thread nD τ).loc main_v2_0) = (resY (x c) (w c) (hx c) (hw c))
      ∧ r.2.mem ((c.tc : Thread nD τ).loc main_v2_1) = (resDx (w c) (dy c) (hw c) (hdy c))
      ∧ r.2.mem ((c.tc : Thread nD τ).loc main_v2_2) = (resDw (x c) (dy c) (hx c) (hdy c))
      ∧ r.2.mem ((c.tc : Thread nD τ).loc main_v2_3) = (newHist (hx c) (size (x c)))
      ∧ r.2.mem ((c.tc : Thread nD τ).loc main_v2_4) = (newHist (hw c) (size (w c)))
      ∧ r.2.mem ((c.tc : Thread nD τ).loc main_v2_5) = (newHist (hdy c) (size (dy c)))
      ∧ r.2.mem ((c.tc : Thread nD τ).loc main_v2_6) = (codes8 (rows (x c)) (hx c))
      ∧ r.2.mem ((c.tc : Thread nD τ).loc main_v2_7) = (fun _ => scaleOf unit8 (hx c))
      ∧ r.2.mem ((c.tc : Thread nD τ).loc main_v2_8) = (codes8 (w c) (hw c))
      ∧ r.2.mem ((c.tc : Thread nD τ).loc main_v2_9) = (fun _ => scaleOf unit8 (hw c))
      ∧ r.2.mem ((c.tc : Thread nD τ).loc main_v2_10) = (codes5 (rows (dy c)) (hdy c))
      ∧ r.2.mem ((c.tc : Thread nD τ).loc main_v2_11) = (fun _ => scaleOf unit5 (hdy c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (run_main m ρ) (unchanged m ρ))
  have hp := (h.1 c).1
  obtain ⟨k0, k1, k2, k3, k4, k5⟩ := h.2 c
  rw [← ex, ← ew, ← edy, ← ehx, ← ehw, ← ehdy]
  unfold resY resDx resDw
  rw [← codesX_eq, ← codesW_eq, ← codesDy_eq, ← scaleX_eq, ← scaleW_eq, ← scaleDy_eq, ← sizeX_eq, ← sizeW_eq, ← sizeDy_eq,
    ← H1_eq m c, ← H2_eq m c, ← H3_eq m c]
  exact ⟨(hp 6).trans (arr6 m c), (hp 7).trans (arr7 m c), (hp 8).trans (arr8 m c), (hp 9).trans (arr9 m c),
    (hp 10).trans (arr10 m c), (hp 11).trans (arr11 m c), (hp 12).trans (arr12 m c), (hp 13).trans (arr13 m c),
    (hp 14).trans (arr14 m c), (hp 15).trans (arr15 m c), (hp 16).trans (arr16 m c), (hp 17).trans (arr17 m c),
    k0, k1, k2, k3.trans (H1_eq m c).symm, k4.trans (H2_eq m c).symm, k5.trans (H3_eq m c).symm⟩

end Cert.KernelIdeal.Hand

end
-- ==== Proof.RI.Values.lean ====
/-
  What the reference's results hold after its run.
-/
module

public import proofs.«01_k».proof.Proof.Gen.ReferenceIdeal.Value
public import proofs.«01_k».proof.Proof.Math.Spec
public import proofs.«01_k».proof.Proof.Math.HistScale
public import Idealize.ShloMosaic.PureOps.Ideal.Laws
public import Idealize.ShloMosaic.Lib.Pointwise
public import Idealize.ShloMosaic.Lib.Claim
public import Idealize.ShloMosaic.Lib.StableHlo.ReadAt
public import Idealize.ShloMosaic.Lib.Pipeline.ValueKit
public import Idealize.ShloMosaic.Lib.Pipeline.ReadBack

@[expose] public section

set_option maxRecDepth 16384

noncomputable section

namespace Cert.ReferenceIdeal.Hand

open Cert.ReferenceIdeal.Gen Cert.Spec
open Idealize.ShloMosaic hiding ix1 ix2 ix3
open Idealize.ShloMosaic.TcCoe Idealize.ShloMosaic.ValueIdx

variable (m : (ℓ : Loc nD τ sig) → Buf (Elt Ideal) ℓ) (c : Dev nD)

/-! ## The payloads -/

theorem xCode_apply (a : Vec Ideal S4096x2048 .bf16) (s : Elt Ideal .f32) (j : S4096x2048.Idx) : k0_pay4 a s j = q8 (a j) s := by
  unfold k0_pay4
  pointwise
  rfl

theorem wCode_apply (a : Vec Ideal S2048x2304 .f32) (s : Elt Ideal .f32) (j : S2048x2304.Idx) : k0_pay5 a s j = q8 (a j) s := by
  unfold k0_pay5
  pointwise
  rfl

theorem dyCode_apply (a : Vec Ideal S4096x2304 .bf16) (s : Elt Ideal .f32) (j : S4096x2304.Idx) : k0_pay6 a s j = q5 (a j) s := by
  unfold k0_pay6
  pointwise
  rfl

theorem y_apply (xs ws : Elt Ideal .f32) (x : Vec Ideal S4096x2048 .bf16) (xi : Elt Ideal .f32) (w : Vec Ideal S2048x2304 .f32)
    (wi : Elt Ideal .f32) : k0_pay1 (k0_pay7 xs ws x xi w wi) = prodY (k0_pay4 x xi) (k0_pay5 w wi) (xs * ws) := by
  funext j
  unfold k0_pay1 k0_pay7
  pointwise
  rfl

theorem dx_apply (ws dys : Elt Ideal .f32) (dy : Vec Ideal S4096x2304 .bf16) (dyi : Elt Ideal .f32) (w : Vec Ideal S2048x2304 .f32)
    (wi : Elt Ideal .f32) : k0_pay2 ws dys (k0_pay8 w wi dy dyi) = prodDx (k0_pay6 dy dyi) (k0_pay5 w wi) (dys * ws) := by
  funext j
  unfold k0_pay2 k0_pay8
  pointwise
  rfl

theorem dw_apply (xs dys : Elt Ideal .f32) (x : FVec Ideal S4096x2048 .fp8e4m3) (dy : FVec Ideal S4096x2304 .fp8e5m2) :
    k0_pay3 xs dys x dy = prodDw x dy (xs * dys) := by
  funext j
  unfold k0_pay3
  pointwise
  rfl

/-! ## The scales -/

theorem at77 : V m c main_v77 = fun _ => scaleOf 0x3B124925#32 (m (c, Proc.tc.devRef main_arg3)) := by
  funext j
  unfold V
  after_reads_at
  exact (congrArg (Ideal.pow _) (Cert.Expo.ref_expo (histTop (m (c, Proc.tc.devRef main_arg3))) (mag (histTop (m (c, Proc.tc.devRef main_arg3)) * Ideal.ofBits .f32 0x3B124925#32)))).trans
    (Cert.Expo.ref_scale _)

theorem at78 : V m c main_v78 = fun _ => invOf 0x3B124925#32 (m (c, Proc.tc.devRef main_arg3)) := by
  funext j
  unfold V
  after_reads_at
  exact (congrArg (fun e => Ideal.pow _ (-e)) (Cert.Expo.ref_expo (histTop (m (c, Proc.tc.devRef main_arg3))) (mag (histTop (m (c, Proc.tc.devRef main_arg3)) * Ideal.ofBits .f32 0x3B124925#32)))).trans
    (Cert.Expo.ref_inv _)

theorem at79 : V m c main_v79 = fun _ => scaleOf 0x3B124925#32 (m (c, Proc.tc.devRef main_arg4)) := by
  funext j
  unfold V
  after_reads_at
  exact (congrArg (Ideal.pow _) (Cert.Expo.ref_expo (histTop (m (c, Proc.tc.devRef main_arg4))) (mag (histTop (m (c, Proc.tc.devRef main_arg4)) * Ideal.ofBits .f32 0x3B124925#32)))).trans
    (Cert.Expo.ref_scale _)

theorem at80 : V m c main_v80 = fun _ => invOf 0x3B124925#32 (m (c, Proc.tc.devRef main_arg4)) := by
  funext j
  unfold V
  after_reads_at
  exact (congrArg (fun e => Ideal.pow _ (-e)) (Cert.Expo.ref_expo (histTop (m (c, Proc.tc.devRef main_arg4))) (mag (histTop (m (c, Proc.tc.devRef main_arg4)) * Ideal.ofBits .f32 0x3B124925#32)))).trans
    (Cert.Expo.ref_inv _)

theorem at81 : V m c main_v81 = fun _ => scaleOf 0x37924925#32 (m (c, Proc.tc.devRef main_arg5)) := by
  funext j
  unfold V
  after_reads_at
  exact (congrArg (Ideal.pow _) (Cert.Expo.ref_expo (histTop (m (c, Proc.tc.devRef main_arg5))) (mag (histTop (m (c, Proc.tc.devRef main_arg5)) * Ideal.ofBits .f32 0x37924925#32)))).trans
    (Cert.Expo.ref_scale _)

theorem at82 : V m c main_v82 = fun _ => invOf 0x37924925#32 (m (c, Proc.tc.devRef main_arg5)) := by
  funext j
  unfold V
  after_reads_at
  exact (congrArg (fun e => Ideal.pow _ (-e)) (Cert.Expo.ref_expo (histTop (m (c, Proc.tc.devRef main_arg5))) (mag (histTop (m (c, Proc.tc.devRef main_arg5)) * Ideal.ofBits .f32 0x37924925#32)))).trans
    (Cert.Expo.ref_inv _)

/-! ## The histories -/

theorem at5 : V m c main_v5
    = newHist (m (c, Proc.tc.devRef main_arg3)) (size (S := S4x1024x2048) (m (c, Proc.tc.devRef main_arg0))) := by
  funext j
  unfold V
  after_reads_at
  rw [← fold_size (S := S4x1024x2048) (m (c, Proc.tc.devRef main_arg0)) (fun k => ix3 k.1 k.2.1 k.2.2) fun i => ⟨(i 0, i 1, i 2), by blk_ext []⟩]
  rfl

theorem at10 : V m c main_v10
    = newHist (m (c, Proc.tc.devRef main_arg4)) (size (S := S2048x2304) (m (c, Proc.tc.devRef main_arg1))) := by
  funext j
  unfold V
  after_reads_at
  rw [← fold_size (S := S2048x2304) (m (c, Proc.tc.devRef main_arg1)) (fun k => ix2 k.1 k.2) fun i => ⟨(i 0, i 1), by blk_ext []⟩]
  rfl

theorem at16 : V m c main_v16
    = newHist (m (c, Proc.tc.devRef main_arg5)) (size (S := S4x1024x2304) (m (c, Proc.tc.devRef main_arg2))) := by
  funext j
  unfold V
  after_reads_at
  rw [← fold_size (S := S4x1024x2304) (m (c, Proc.tc.devRef main_arg2)) (fun k => ix3 k.1 k.2.1 k.2.2) fun i => ⟨(i 0, i 1, i 2), by blk_ext []⟩]
  rfl

/-! ## The arrays the products read -/

theorem in0 (i) : iblk m c 0 t0_0 i = scaleOf 0x3B124925#32 (m (c, Proc.tc.devRef main_arg3)) := by
  have e : iblk m c 0 t0_0 = V m c main_v77 := by
    funext j
    blk_ext [iblk, (by decide +kernel : win0_0.index t0_0 = ![0])]
  rw [e, at77]

theorem in1 (i) : iblk m c 1 t0_0 i = invOf 0x3B124925#32 (m (c, Proc.tc.devRef main_arg3)) := by
  have e : iblk m c 1 t0_0 = V m c main_v78 := by
    funext j
    blk_ext [iblk, (by decide +kernel : win0_1.index t0_0 = ![0])]
  rw [e, at78]

theorem in2 (i) : iblk m c 2 t0_0 i = scaleOf 0x3B124925#32 (m (c, Proc.tc.devRef main_arg4)) := by
  have e : iblk m c 2 t0_0 = V m c main_v79 := by
    funext j
    blk_ext [iblk, (by decide +kernel : win0_2.index t0_0 = ![0])]
  rw [e, at79]

theorem in3 (i) : iblk m c 3 t0_0 i = invOf 0x3B124925#32 (m (c, Proc.tc.devRef main_arg4)) := by
  have e : iblk m c 3 t0_0 = V m c main_v80 := by
    funext j
    blk_ext [iblk, (by decide +kernel : win0_3.index t0_0 = ![0])]
  rw [e, at80]

theorem in4 (i) : iblk m c 4 t0_0 i = scaleOf 0x37924925#32 (m (c, Proc.tc.devRef main_arg5)) := by
  have e : iblk m c 4 t0_0 = V m c main_v81 := by
    funext j
    blk_ext [iblk, (by decide +kernel : win0_4.index t0_0 = ![0])]
  rw [e, at81]

theorem in5 (i) : iblk m c 5 t0_0 i = invOf 0x37924925#32 (m (c, Proc.tc.devRef main_arg5)) := by
  have e : iblk m c 5 t0_0 = V m c main_v82 := by
    funext j
    blk_ext [iblk, (by decide +kernel : win0_5.index t0_0 = ![0])]
  rw [e, at82]

theorem in6 : iblk m c 6 t0_0 = V m c main_v83 := by
  funext j
  blk_ext [iblk, (by decide +kernel : win0_6.index t0_0 = ![0, 0])]

theorem in7 : iblk m c 7 t0_0 = V m c main_arg1 := by
  funext j
  blk_ext [iblk, (by decide +kernel : win0_7.index t0_0 = ![0, 0])]

theorem in8 : iblk m c 8 t0_0 = V m c main_v84 := by
  funext j
  blk_ext [iblk, (by decide +kernel : win0_8.index t0_0 = ![0, 0])]

theorem atX : V m c main_v83 = rows (m (c, Proc.tc.devRef main_arg0)) := by
  funext j
  unfold V
  after_reads_at
  rfl

theorem atW : V m c main_arg1 = m (c, Proc.tc.devRef main_arg1) := by
  funext j
  unfold V
  after_reads_at

theorem atDy : V m c main_v84 = rows (m (c, Proc.tc.devRef main_arg2)) := by
  funext j
  unfold V
  after_reads_at
  rfl

/-- The codes of the tokens, -/
theorem codesX : k0_pay4 (V m c main_v83) (invOf 0x3B124925#32 (m (c, Proc.tc.devRef main_arg3)))
    = codes8 (rows (m (c, Proc.tc.devRef main_arg0))) (m (c, Proc.tc.devRef main_arg3)) := by
  funext j
  rw [xCode_apply, atX]
  rfl

/-- of the weights, -/
theorem codesW : k0_pay5 (V m c main_arg1) (invOf 0x3B124925#32 (m (c, Proc.tc.devRef main_arg4)))
    = codes8 (S := S2048x2304) (m (c, Proc.tc.devRef main_arg1)) (m (c, Proc.tc.devRef main_arg4)) := by
  funext j
  rw [wCode_apply, atW]
  rfl

/-- and of the gradient. -/
theorem codesDy : k0_pay6 (V m c main_v84) (invOf 0x37924925#32 (m (c, Proc.tc.devRef main_arg5)))
    = codes5 (rows (m (c, Proc.tc.devRef main_arg2))) (m (c, Proc.tc.devRef main_arg5)) := by
  funext j
  rw [dyCode_apply, atDy]
  rfl

/-! ## The results -/

theorem arr9 : (dats m 0 c).arrAt 9 (cfgs 0).N
    = prodY (codes8 (rows (m (c, Proc.tc.devRef main_arg0))) (m (c, Proc.tc.devRef main_arg3))) (codes8 (S := S2048x2304) (m (c, Proc.tc.devRef main_arg1)) (m (c, Proc.tc.devRef main_arg4)))
      (scaleOf 0x3B124925#32 (m (c, Proc.tc.devRef main_arg3)) * scaleOf 0x3B124925#32 (m (c, Proc.tc.devRef main_arg4))) := by
  refine (dats m 0 c).arrAt_eq_of_after_last 9 t0_0 (by decide +kernel) _ fun j => ?_
  blk_simp
  rw [after0_9]
  simp only [outsAt0]
  frame_out
  simp only [read_unread_whole]
  simp only [in0, in1, in2, in3, in6, in7]
  rw [y_apply]
  exact congrFun (congrArg₂ (fun a b => prodY a b _) (codesX m c) (codesW m c)) j

theorem arr10 : (dats m 0 c).arrAt 10 (cfgs 0).N
    = prodDx (codes5 (rows (m (c, Proc.tc.devRef main_arg2))) (m (c, Proc.tc.devRef main_arg5))) (codes8 (S := S2048x2304) (m (c, Proc.tc.devRef main_arg1)) (m (c, Proc.tc.devRef main_arg4)))
      (scaleOf 0x37924925#32 (m (c, Proc.tc.devRef main_arg5)) * scaleOf 0x3B124925#32 (m (c, Proc.tc.devRef main_arg4))) := by
  refine (dats m 0 c).arrAt_eq_of_after_last 10 t0_0 (by decide +kernel) _ fun j => ?_
  blk_simp
  rw [after0_10]
  simp only [outsAt0]
  frame_out
  simp only [read_unread_whole]
  simp only [in2, in3, in4, in5, in7, in8]
  rw [dx_apply]
  exact congrFun (congrArg₂ (fun a b => prodDx a b _) (codesDy m c) (codesW m c)) j

theorem arr11 : (dats m 0 c).arrAt 11 (cfgs 0).N
    = prodDw (codes8 (rows (m (c, Proc.tc.devRef main_arg0))) (m (c, Proc.tc.devRef main_arg3))) (codes5 (rows (m (c, Proc.tc.devRef main_arg2))) (m (c, Proc.tc.devRef main_arg5)))
      (scaleOf 0x3B124925#32 (m (c, Proc.tc.devRef main_arg3)) * scaleOf 0x37924925#32 (m (c, Proc.tc.devRef main_arg5))) := by
  refine (dats m 0 c).arrAt_eq_of_after_last 11 t0_0 (by decide +kernel) _ fun j => ?_
  blk_simp
  rw [after0_11]
  simp only [outsAt0]
  frame_out
  simp only [read_unread_whole]
  simp only [in0, in1, in4, in5, in6, in8]
  rw [dw_apply]
  exact congrFun (congrArg₂ (fun a b => prodDw a b _) (codesX m c) (codesDy m c)) j

theorem arr12 : (dats m 0 c).arrAt 12 (cfgs 0).N
    = (codes8 (rows (m (c, Proc.tc.devRef main_arg0))) (m (c, Proc.tc.devRef main_arg3))) := by
  refine (dats m 0 c).arrAt_eq_of_after_last 12 t0_0 (by decide +kernel) _ fun j => ?_
  blk_simp
  rw [after0_12]
  simp only [outsAt0]
  frame_out
  simp only [read_unread_whole]
  simp only [in1, in6]
  exact congrFun (codesX m c) j

theorem arr13 : (dats m 0 c).arrAt 13 (cfgs 0).N
    = (codes8 (S := S2048x2304) (m (c, Proc.tc.devRef main_arg1)) (m (c, Proc.tc.devRef main_arg4))) := by
  refine (dats m 0 c).arrAt_eq_of_after_last 13 t0_0 (by decide +kernel) _ fun j => ?_
  blk_simp
  rw [after0_13]
  simp only [outsAt0]
  frame_out
  simp only [read_unread_whole]
  simp only [in3, in7]
  exact congrFun (codesW m c) j

theorem arr14 : (dats m 0 c).arrAt 14 (cfgs 0).N
    = (codes5 (rows (m (c, Proc.tc.devRef main_arg2))) (m (c, Proc.tc.devRef main_arg5))) := by
  refine (dats m 0 c).arrAt_eq_of_after_last 14 t0_0 (by decide +kernel) _ fun j => ?_
  blk_simp
  rw [after0_14]
  simp only [outsAt0]
  frame_out
  simp only [read_unread_whole]
  simp only [in5, in8]
  exact congrFun (codesDy m c) j

end Cert.ReferenceIdeal.Hand

end
-- ==== Proof.RI.Results.lean ====
/-
  The reference's results as functions of its arguments.
-/
module

public import proofs.«01_k».proof.Proof.RI.Values

@[expose] public section

set_option maxRecDepth 16384

noncomputable section

namespace Cert.ReferenceIdeal.Hand

open Cert.ReferenceIdeal.Gen Cert.ReferenceIdeal.Value Cert.Spec
open Idealize.ShloMosaic hiding ix1 ix2 ix3
open Idealize.ShloMosaic.TcCoe Idealize.ShloMosaic.ValueIdx

variable (m : (ℓ : Loc nD τ sig) → Buf (Elt Ideal) ℓ)

/-- What the reference leaves, in terms of its arguments. -/
theorem results (ρ : Dev nD → PrngReg) (x : Dev nD → S4x1024x2048.Idx → EReal) (w : Dev nD → S2048x2304.Idx → EReal)
    (dy : Dev nD → S4x1024x2304.Idx → EReal) (hx hw hdy : Dev nD → S16.Idx → EReal)
    (ex : ∀ c, m (c, Proc.tc.devRef main_arg0) = x c) (ew : ∀ c, m (c, Proc.tc.devRef main_arg1) = w c)
    (edy : ∀ c, m (c, Proc.tc.devRef main_arg2) = dy c) (ehx : ∀ c, m (c, Proc.tc.devRef main_arg3) = hx c)
    (ehw : ∀ c, m (c, Proc.tc.devRef main_arg4) = hw c) (ehdy : ∀ c, m (c, Proc.tc.devRef main_arg5) = hdy c) :
    θ_run defs (onTc (τ := τ) (main (F := Ideal))) ⟨m, fun _ => 0, ρ⟩ (fun r => ∀ c : Dev nD,
      r.2.mem ((c.tc : Thread nD τ).loc main_v85_0) = (resY (x c) (w c) (hx c) (hw c))
      ∧ r.2.mem ((c.tc : Thread nD τ).loc main_v85_1) = (resDx (w c) (dy c) (hw c) (hdy c))
      ∧ r.2.mem ((c.tc : Thread nD τ).loc main_v85_2) = (resDw (x c) (dy c) (hx c) (hdy c))
      ∧ r.2.mem ((c.tc : Thread nD τ).loc main_v5) = (newHist (hx c) (size (x c)))
      ∧ r.2.mem ((c.tc : Thread nD τ).loc main_v10) = (newHist (hw c) (size (w c)))
      ∧ r.2.mem ((c.tc : Thread nD τ).loc main_v16) = (newHist (hdy c) (size (dy c)))
      ∧ r.2.mem ((c.tc : Thread nD τ).loc main_v85_3) = (codes8 (rows (x c)) (hx c))
      ∧ r.2.mem ((c.tc : Thread nD τ).loc main_v77) = (fun _ => scaleOf unit8 (hx c))
      ∧ r.2.mem ((c.tc : Thread nD τ).loc main_v85_4) = (codes8 (w c) (hw c))
      ∧ r.2.mem ((c.tc : Thread nD τ).loc main_v79) = (fun _ => scaleOf unit8 (hw c))
      ∧ r.2.mem ((c.tc : Thread nD τ).loc main_v85_5) = (codes5 (rows (dy c)) (hdy c))
      ∧ r.2.mem ((c.tc : Thread nD τ).loc main_v81) = (fun _ => scaleOf unit5 (hdy c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (run_main m ρ)
  rw [← ex, ← ew, ← edy, ← ehx, ← ehw, ← ehdy]
  exact ⟨(post9 m r h c).trans (arr9 m c), (post10 m r h c).trans (arr10 m c), (post11 m r h c).trans (arr11 m c),
    ((h c).2 main_v5 (Pipeline.mem_restRefs_of main_v5 (by decide) (by decide))).trans (at5 m c),
    ((h c).2 main_v10 (Pipeline.mem_restRefs_of main_v10 (by decide) (by decide))).trans (at10 m c),
    ((h c).2 main_v16 (Pipeline.mem_restRefs_of main_v16 (by decide) (by decide))).trans (at16 m c),
    (post12 m r h c).trans (arr12 m c),
    ((h c).1 0).trans (((dats m 0 c).arrAt_in 0 rfl _).trans ((A_eq m c 0).trans (at77 m c))),
    (post13 m r h c).trans (arr13 m c),
    ((h c).1 2).trans (((dats m 0 c).arrAt_in 2 rfl _).trans ((A_eq m c 2).trans (at79 m c))),
    (post14 m r h c).trans (arr14 m c),
    ((h c).1 4).trans (((dats m 0 c).arrAt_in 4 rfl _).trans ((A_eq m c 4).trans (at81 m c))),
    kept_main_arg0 m r h c, kept_main_arg1 m r h c, kept_main_arg2 m r h c, kept_main_arg3 m r h c, kept_main_arg4 m r h c,
    kept_main_arg5 m r h c⟩

end Cert.ReferenceIdeal.Hand

end
-- ==== Proof.lean ====
/-
  The certificate: the runs of the kernel and of the reference, put together.
-/
module

public import proofs.«01_k».proof.Defs
public import proofs.«01_k».proof.Proof.KernelFrame
public import proofs.«01_k».proof.Proof.Gen.ReferenceIdeal.Frame
public import proofs.«01_k».proof.Proof.Gen.ReferenceIdeal.Value
public import proofs.«01_k».proof.Proof.KI.Results
public import proofs.«01_k».proof.Proof.RI.Results

@[expose] public section

noncomputable section

namespace Cert.Proof

open Idealize.ShloMosaic Idealize.ShloMosaic.TcCoe

/-- The kernel and the reference, from equal arguments, leave equal results. -/
theorem algebraic : algebraic_KernelIdeal_ReferenceIdeal := fun m g m' g' _ hagree =>
  ⟨_, _, _, _, _, _, _, _, _, _, _, _,
    Cert.KernelIdeal.Hand.results m g _ _ _ _ _ _ (fun _ => rfl) (fun _ => rfl) (fun _ => rfl) (fun _ => rfl) (fun _ => rfl)
      (fun _ => rfl),
    Cert.ReferenceIdeal.Hand.results m' g' _ _ _ _ _ _ (fun c => (hagree c).1) (fun c => (hagree c).2.1)
      (fun c => (hagree c).2.2.1) (fun c => (hagree c).2.2.2.1) (fun c => (hagree c).2.2.2.2.1) (fun c => (hagree c).2.2.2.2.2)⟩

theorem claim : Cert.Claim :=
  ⟨Cert.Kernel.Gen.facts, Cert.KernelIdeal.Gen.facts, Cert.ReferenceIdeal.Gen.facts, quiescent_Kernel,
    fun m ρ _ => Cert.KernelIdeal.Hand.frame m ρ, fun m ρ _ => Cert.ReferenceIdeal.Gen.frame m ρ, trivial, algebraic⟩

end Cert.Proof

end
